-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_classes [hPre_in_classes : Cert.Pre_in_classes.Facts] (m : (ℓ : Loc Cert.KernelIdeal.nD Cert.KernelIdeal.τ Cert.KernelIdeal.sig) → Buf (Elt Ideal) ℓ) : Prop :=
  ∀ c : Dev Cert.KernelIdeal.nD,
    (Cert.Pre_in_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_classes [hPre_in_classes : Cert.Pre_in_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_classes [hKernelIdeal : Cert.KernelIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_classes [hReferenceIdeal : Cert.ReferenceIdeal.Facts] [hPre_in_classes : Cert.Pre_in_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_thresh" .f32 0xBEB69E19#32 ((Real.log (7 / 10) : ℝ) : EReal)

def algebraic_KernelIdeal_ReferenceIdeal_pre_in_classes [hKernelIdeal : Cert.KernelIdeal.Facts] [hReferenceIdeal : Cert.ReferenceIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_classes : Cert.Pre_in_classes.Facts),
    quiescent_Kernel (hKernel := hKernel)
    ∧ quiescent_KernelIdeal (hKernelIdeal := hKernelIdeal)
    ∧ quiescent_KernelIdeal_pre_in_classes (hKernelIdeal := hKernelIdeal) (hPre_in_classes := hPre_in_classes)
    ∧ quiescent_ReferenceIdeal (hReferenceIdeal := hReferenceIdeal)
    ∧ quiescent_ReferenceIdeal_pre_in_classes (hReferenceIdeal := hReferenceIdeal) (hPre_in_classes := hPre_in_classes)
    ∧ preserves_Kernel_KernelIdeal
    ∧ algebraic_KernelIdeal_ReferenceIdeal_pre_in_classes (hKernelIdeal := hKernelIdeal) (hReferenceIdeal := hReferenceIdeal) (hPre_in_classes := hPre_in_classes)
-- ==== Pre_in_classes.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x19x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 32 := constantI S_ 32 19#32
  let main_v2 : IVec S8x512x512 32 := broadcastInDim S8x512x512 ![] bcast_S_S8x512x512 main_c_0
  let main_v3 : IVec S8x512x512 1 := cmpi .slt main_arg1 main_v2
  let main_v4 : IVec S8x512x512 1 := andi main_v1 main_v3
  let main_c_1 : IVec S_ 1 := constantI S_ 1 1#1
  let main_v5 : IVec S_ 1 := (fun x v => Host.reduce IntOp.andi x v reducesTo_S8x512x512_S_d0_1_2 h_S_) main_v4 main_c_1
  main_v5
-- ==== Kernel.lean ====
abbrev S8x19x512x512 : Shape := ⟨4, ![8, 19, 512, 512]⟩
abbrev S8x512x512 : Shape := ⟨3, ![8, 512, 512]⟩
abbrev S1x1 : Shape := ⟨2, ![1, 1]⟩
abbrev S1x19x256x512 : Shape := ⟨4, ![1, 19, 256, 512]⟩
abbrev S1x256x512 : Shape := ⟨3, ![1, 256, 512]⟩
abbrev S16x512 : Shape := ⟨2, ![16, 512]⟩
abbrev S1x16x512 : Shape := ⟨3, ![1, 16, 512]⟩
abbrev S1x1x16x512 : Shape := ⟨4, ![1, 1, 16, 512]⟩
abbrev S1 : Shape := ⟨1, ![1]⟩
abbrev S1x1x1 : Shape := ⟨3, ![1, 1, 1]⟩
abbrev S_ : Shape := ⟨0, ![]⟩
abbrev S19x256x512 : Shape := ⟨3, ![19, 256, 512]⟩
abbrev S256x512 : Shape := ⟨2, ![256, 512]⟩
abbrev S2097152 : Shape := ⟨1, ![2097152]⟩

abbrev nBuf : Space → Nat
  | .hbm => 30
  | .vmem => 10
  | .smem => 2
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .i32⟩
  | .hbm, ⟨9, _⟩ => ⟨S_, .f32⟩
  | .hbm, ⟨10, _⟩ => ⟨S8x512x512, .f32⟩
  | .hbm, ⟨11, _⟩ => ⟨S2097152, .f32⟩
  | .hbm, ⟨12, _⟩ => ⟨S2097152, .f32⟩
  | .hbm, ⟨13, _⟩ => ⟨S1, .f32⟩
  | .hbm, ⟨14, _⟩ => ⟨S_, .f32⟩
  | .hbm, ⟨15, _⟩ => ⟨S2097152, .f32⟩
  | .hbm, ⟨16, _⟩ => ⟨S2097152, .i1⟩
  | .hbm, ⟨17, _⟩ => ⟨S2097152, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2097152, .f32⟩
  | .hbm, ⟨23, _⟩ => ⟨S2097152, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x256x512, .i32⟩
  | .local _ .vmem, ⟨3, _⟩ => ⟨S1x256x512, .i32⟩
  | .local _ .vmem, ⟨4, _⟩ => ⟨S1x19x256x512, .f32⟩
  | .local _ .vmem, ⟨5, _⟩ => ⟨S1x19x256x512, .f32⟩
  | .local _ .vmem, ⟨6, _⟩ => ⟨S1x256x512, .i32⟩
  | .local _ .vmem, ⟨7, _⟩ => ⟨S1x256x512, .i32⟩
  | .local _ .vmem, ⟨8, _⟩ => ⟨S1x256x512, .f32⟩
  | .local _ .vmem, ⟨9, _⟩ => ⟨S1x256x512, .f32⟩
  | .local _ .smem, ⟨0, _⟩ => ⟨S1x1, .f32⟩
  | .local _ .smem, ⟨1, _⟩ => ⟨S1x1, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_case0b0_v6 : Ref sig .tc := ⟨.hbm, 10, rfl⟩
abbrev main_case0b0_v7 : Ref sig .tc := ⟨.hbm, 11, rfl⟩
abbrev main_case0b0_v8 : Ref sig .tc := ⟨.hbm, 12, rfl⟩
abbrev main_case0b0_v9 : Ref sig .tc := ⟨.hbm, 13, rfl⟩
abbrev main_case0b0_v10 : Ref sig .tc := ⟨.hbm, 14, rfl⟩
abbrev main_case0b0_v11 : Ref sig .tc := ⟨.hbm, 15, rfl⟩
abbrev main_case0b0_v12 : Ref sig .tc := ⟨.hbm, 16, rfl⟩
abbrev main_case0b0_v13 : Ref sig .tc := ⟨.hbm, 17, rfl⟩
abbrev main_case0b0_cst_0 : Ref sig .tc := ⟨.hbm, 18, rfl⟩
abbrev main_case0b0_v14 : Ref sig .tc := ⟨.hbm, 19, rfl⟩
abbrev main_case0b0_cst_1 : Ref sig .tc := ⟨.hbm, 20, rfl⟩
abbrev main_case0b0_call0_v0 : Ref sig .tc := ⟨.hbm, 21, rfl⟩
abbrev main_case0b0_call0_v1 : Ref sig .tc := ⟨.hbm, 22, rfl⟩
abbrev main_case0b0_v15 : Ref sig .tc := ⟨.hbm, 23, rfl⟩
abbrev main_case0b0_cst_2 : Ref sig .tc := ⟨.hbm, 24, rfl⟩
abbrev main_case0b0_v16 : Ref sig .tc := ⟨.hbm, 25, rfl⟩
abbrev main_case0b0_v17 : Ref sig .tc := ⟨.hbm, 26, rfl⟩
abbrev main_case0b0_v18 : Ref sig .tc := ⟨.hbm, 27, rfl⟩
abbrev main_case0b1_v6 : Ref sig .tc := ⟨.hbm, 28, rfl⟩
abbrev main_case0b1_v7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 3 → Nat :=
  let c0_13 : Index := 0#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v21 : Index := Scalar.indexCast v20
  let c0_14 : Index := 0#32
  ![0, v21.toNat, 0]
def k0_off2 (k0_t1 : Fin k0_t1_loop.trips) : Fin 4 → Nat :=
  let c0_17 : Index := 0#32
  let c0_18 : Index := 0#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v26 : Index := Scalar.indexCast v20
  let c0_19 : Index := 0#32
  ![0, 0, v26.toNat, 0]
def k0_off3 (k0_t1 : Fin k0_t1_loop.trips) : Fin 4 → Nat :=
  let c0_21 : Index := 0#32
  let c1 : Index := 1#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v34 : Index := Scalar.indexCast v20
  let c0_22 : Index := 0#32
  ![0, 1, v34.toNat, 0]
def k0_off4 (k0_t1 : Fin k0_t1_loop.trips) : Fin 4 → Nat :=
  let c0_24 : Index := 0#32
  let c2 : Index := 2#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v42 : Index := Scalar.indexCast v20
  let c0_25 : Index := 0#32
  ![0, 2, v42.toNat, 0]
def k0_off5 (k0_t1 : Fin k0_t1_loop.trips) : Fin 4 → Nat :=
  let c0_26 : Index := 0#32
  let c3 : Index := 3#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v50 : Index := Scalar.indexCast v20
  let c0_27 : Index := 0#32
  ![0, 3, v50.toNat, 0]
def k0_off6 (k0_t1 : Fin k0_t1_loop.trips) : Fin 4 → Nat :=
  let c0_28 : Index := 0#32
  let c4 : Index := 4#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v58 : Index := Scalar.indexCast v20
  let c0_29 : Index := 0#32
  ![0, 4, v58.toNat, 0]
def k0_off7 (k0_t1 : Fin k0_t1_loop.trips) : Fin 4 → Nat :=
  let c0_30 : Index := 0#32
  let c5 : Index := 5#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v66 : Index := Scalar.indexCast v20
  let c0_31 : Index := 0#32
  ![0, 5, v66.toNat, 0]
def k0_off8 (k0_t1 : Fin k0_t1_loop.trips) : Fin 4 → Nat :=
  let c0_32 : Index := 0#32
  let c6 : Index := 6#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v74 : Index := Scalar.indexCast v20
  let c0_33 : Index := 0#32
  ![0, 6, v74.toNat, 0]
def k0_off9 (k0_t1 : Fin k0_t1_loop.trips) : Fin 4 → Nat :=
  let c0_34 : Index := 0#32
  let c7 : Index := 7#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v82 : Index := Scalar.indexCast v20
  let c0_35 : Index := 0#32
  ![0, 7, v82.toNat, 0]
def k0_off10 (k0_t1 : Fin k0_t1_loop.trips) : Fin 4 → Nat :=
  let c0_36 : Index := 0#32
  let c8 : Index := 8#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v90 : Index := Scalar.indexCast v20
  let c0_37 : Index := 0#32
  ![0, 8, v90.toNat, 0]
def k0_off11 (k0_t1 : Fin k0_t1_loop.trips) : Fin 4 → Nat :=
  let c0_38 : Index := 0#32
  let c9 : Index := 9#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v98 : Index := Scalar.indexCast v20
  let c0_39 : Index := 0#32
  ![0, 9, v98.toNat, 0]
def k0_off12 (k0_t1 : Fin k0_t1_loop.trips) : Fin 4 → Nat :=
  let c0_40 : Index := 0#32
  let c10 : Index := 10#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v106 : Index := Scalar.indexCast v20
  let c0_41 : Index := 0#32
  ![0, 10, v106.toNat, 0]
def k0_off13 (k0_t1 : Fin k0_t1_loop.trips) : Fin 4 → Nat :=
  let c0_42 : Index := 0#32
  let c11 : Index := 11#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v114 : Index := Scalar.indexCast v20
  let c0_43 : Index := 0#32
  ![0, 11, v114.toNat, 0]
def k0_off14 (k0_t1 : Fin k0_t1_loop.trips) : Fin 4 → Nat :=
  let c0_44 : Index := 0#32
  let c12 : Index := 12#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v122 : Index := Scalar.indexCast v20
  let c0_45 : Index := 0#32
  ![0, 12, v122.toNat, 0]
def k0_off15 (k0_t1 : Fin k0_t1_loop.trips) : Fin 4 → Nat :=
  let c0_46 : Index := 0#32
  let c13 : Index := 13#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v130 : Index := Scalar.indexCast v20
  let c0_47 : Index := 0#32
  ![0, 13, v130.toNat, 0]
def k0_off16 (k0_t1 : Fin k0_t1_loop.trips) : Fin 4 → Nat :=
  let c0_48 : Index := 0#32
  let c14 : Index := 14#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v138 : Index := Scalar.indexCast v20
  let c0_49 : Index := 0#32
  ![0, 14, v138.toNat, 0]
def k0_off17 (k0_t1 : Fin k0_t1_loop.trips) : Fin 4 → Nat :=
  let c0_50 : Index := 0#32
  let c15 : Index := 15#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v146 : Index := Scalar.indexCast v20
  let c0_51 : Index := 0#32
  ![0, 15, v146.toNat, 0]
def k0_off18 (k0_t1 : Fin k0_t1_loop.trips) : Fin 4 → Nat :=
  let c0_52 : Index := 0#32
  let c16 : Index := 16#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v154 : Index := Scalar.indexCast v20
  let c0_53 : Index := 0#32
  ![0, 16, v154.toNat, 0]
def k0_off19 (k0_t1 : Fin k0_t1_loop.trips) : Fin 4 → Nat :=
  let c0_55 : Index := 0#32
  let c17 : Index := 17#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v162 : Index := Scalar.indexCast v20
  let c0_56 : Index := 0#32
  ![0, 17, v162.toNat, 0]
def k0_off20 (k0_t1 : Fin k0_t1_loop.trips) : Fin 4 → Nat :=
  let c0_57 : Index := 0#32
  let c18 : Index := 18#32
  let c0_i32 : BitVec 32 := 0#32
  let c1_i32 : BitVec 32 := 1#32
  let arg5 : BitVec 32 := Scf.iv c0_i32 c1_i32 k0_t1
  let c16_i32_12 : BitVec 32 := 16#32
  let v20 : BitVec 32 := Scalar.muli arg5 c16_i32_12
  let v170 : Index := Scalar.indexCast v20
  let c0_58 : Index := 0#32
  ![0, 18, v170.toNat, 0]
def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_1 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_2 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage1_0 : Fin 2 → Memref sig .tc .vmem S1x19x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "log_thresh" => some ((Real.log (7 / 10) : ℝ) : EReal)
  | _ => none
-- ==== ReferenceIdeal.lean ====
abbrev S8x19x512x512 : Shape := ⟨4, ![8, 19, 512, 512]⟩
abbrev S8x512x512 : Shape := ⟨3, ![8, 512, 512]⟩
abbrev S2097152 : Shape := ⟨1, ![2097152]⟩
abbrev S_ : Shape := ⟨0, ![]⟩
abbrev S8x1x512x512 : Shape := ⟨4, ![8, 1, 512, 512]⟩
abbrev S19x8x512x512 : Shape := ⟨4, ![19, 8, 512, 512]⟩
abbrev S19x2097152 : Shape := ⟨2, ![19, 2097152]⟩
abbrev S1x2097152 : Shape := ⟨2, ![1, 2097152]⟩
abbrev S2097152x1 : Shape := ⟨2, ![2097152, 1]⟩
abbrev S2097152x2 : Shape := ⟨2, ![2097152, 2]⟩
abbrev S1 : Shape := ⟨1, ![1]⟩
abbrev S8x512x512x19 : Shape := ⟨4, ![8, 512, 512, 19]⟩
abbrev S2097152x19 : Shape := ⟨2, ![2097152, 19]⟩
abbrev S2097152x1x1 : Shape := ⟨3, ![2097152, 1, 1]⟩
abbrev S1x1x1 : Shape := ⟨3, ![1, 1, 1]⟩

abbrev nBuf : Space → Nat
  | .hbm => 130
  | .vmem => 0
  | .smem => 0
  | _ => 0

abbrev hbmTy0_0 (i : Nat) : BufTy := match i % 128 with
  | 0 => ⟨S8x19x512x512, .f32⟩
  | 1 => ⟨S8x512x512, .i32⟩
  | 2 => ⟨S2097152, .i32⟩
  | 3 => ⟨S_, .i32⟩
  | 4 => ⟨S2097152, .i32⟩
  | 5 => ⟨S2097152, .i1⟩
  | 6 => ⟨S2097152, .i32⟩
  | 7 => ⟨S2097152, .i32⟩
  | 8 => ⟨S_, .f32⟩
  | 9 => ⟨S8x512x512, .f32⟩
  | 10 => ⟨S_, .f32⟩
  | 11 => ⟨S8x512x512, .f32⟩
  | 12 => ⟨S8x512x512, .f32⟩
  | 13 => ⟨S8x1x512x512, .f32⟩
  | 14 => ⟨S8x19x512x512, .f32⟩
  | 15 => ⟨S8x19x512x512, .f32⟩
  | 16 => ⟨S8x19x512x512, .f32⟩
  | 17 => ⟨S_, .f32⟩
  | 18 => ⟨S8x512x512, .f32⟩
  | 19 => ⟨S8x1x512x512, .f32⟩
  | 20 => ⟨S8x19x512x512, .f32⟩
  | 21 => ⟨S8x19x512x512, .f32⟩
  | 22 => ⟨S19x8x512x512, .f32⟩
  | 23 => ⟨S19x2097152, .f32⟩
  | 24 => ⟨S1x2097152, .i1⟩
  | 25 => ⟨S_, .f32⟩
  | 26 => ⟨S_, .f32⟩
  | 27 => ⟨S19x2097152, .i1⟩
  | 28 => ⟨S19x2097152, .f32⟩
  | 29 => ⟨S19x2097152, .f32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x1, .i32⟩
  | 47 => ⟨S2097152x2, .i32⟩
  | 48 => ⟨S2097152, .f32⟩
  | 49 => ⟨S2097152, .i32⟩
  | 50 => ⟨S2097152, .f32⟩
  | 51 => ⟨S2097152, .i32⟩
  | 52 => ⟨S1, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .f32⟩
  | 60 => ⟨S_, .f32⟩
  | 61 => ⟨S_, .f32⟩
  | 62 => ⟨S_, .f32⟩
  | 63 => ⟨S_, .f32⟩
  | 64 => ⟨S_, .f32⟩
  | 65 => ⟨S2097152, .f32⟩
  | 66 => ⟨S2097152, .i1⟩
  | 67 => ⟨S2097152, .i32⟩
  | 68 => ⟨S2097152, .i32⟩
  | 69 => ⟨S2097152, .i1⟩
  | 70 => ⟨S_, .i32⟩
  | 71 => ⟨S_, .i32⟩
  | 72 => ⟨S2097152, .i32⟩
  | 73 => ⟨S2097152, .i32⟩
  | 74 => ⟨S_, .f32⟩
  | 75 => ⟨S8x512x512, .f32⟩
  | 76 => ⟨S_, .f32⟩
  | 77 => ⟨S8x512x512, .f32⟩
  | 78 => ⟨S8x512x512, .f32⟩
  | 79 => ⟨S8x1x512x512, .f32⟩
  | 80 => ⟨S8x19x512x512, .f32⟩
  | 81 => ⟨S8x19x512x512, .f32⟩
  | 82 => ⟨S8x19x512x512, .f32⟩
  | 83 => ⟨S_, .f32⟩
  | 84 => ⟨S8x512x512, .f32⟩
  | 85 => ⟨S8x1x512x512, .f32⟩
  | 86 => ⟨S8x1x512x512, .f32⟩
  | 87 => ⟨S8x19x512x512, .f32⟩
  | 88 => ⟨S8x19x512x512, .f32⟩
  | 89 => ⟨S8x512x512x19, .f32⟩
  | 90 => ⟨S2097152x19, .f32⟩
  | 91 => ⟨S_, .i32⟩
  | 92 => ⟨S2097152, .i32⟩
  | 93 => ⟨S2097152, .i1⟩
  | 94 => ⟨S_, .i32⟩
  | 95 => ⟨S_, .i32⟩
  | 96 => ⟨S2097152, .i32⟩
  | 97 => ⟨S2097152, .i32⟩
  | 98 => ⟨S2097152x1, .i32⟩
  | 99 => ⟨S_, .i32⟩
  | 100 => ⟨S2097152x1, .i32⟩
  | 101 => ⟨S2097152x1, .i1⟩
  | 102 => ⟨S_, .i32⟩
  | 103 => ⟨S2097152x1, .i32⟩
  | 104 => ⟨S2097152x1, .i32⟩
  | 105 => ⟨S2097152x1, .i32⟩
  | 106 => ⟨S2097152x1x1, .i32⟩
  | 107 => ⟨S1, .i32⟩
  | 108 => ⟨S_, .i32⟩
  | 109 => ⟨S2097152x1x1, .i32⟩
  | 110 => ⟨S2097152x1x1, .i1⟩
  | 111 => ⟨S1x1x1, .i32⟩
  | 112 => ⟨S2097152x1x1, .i32⟩
  | 113 => ⟨S2097152x1x1, .i1⟩
  | 114 => ⟨S2097152x1x1, .i1⟩
  | 115 => ⟨S_, .i1⟩
  | 116 => ⟨S2097152x1, .i1⟩
  | 117 => ⟨S2097152x1, .f32⟩
  | 118 => ⟨S_, .f32⟩
  | 119 => ⟨S2097152x1, .f32⟩
  | 120 => ⟨S2097152x1, .f32⟩
  | 121 => ⟨S2097152, .f32⟩
  | 122 => ⟨S2097152, .f32⟩
  | 123 => ⟨S2097152, .f32⟩
  | 124 => ⟨S2097152, .f32⟩
  | 125 => ⟨S_, .f32⟩
  | 126 => ⟨S_, .f32⟩
  | 127 => ⟨S_, .f32⟩
  | _ => ⟨S8x19x512x512, .f32⟩

abbrev hbmTy0_1 (i : Nat) : BufTy := match i % 128 with
  | 0 => ⟨S_, .f32⟩
  | 1 => ⟨S_, .f32⟩
  | _ => ⟨S8x19x512x512, .f32⟩

abbrev hbmTy (i : Nat) : BufTy := match i / 128 with
  | 0 => hbmTy0_0 i
  | 1 => hbmTy0_1 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_v1_0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_call2_v0 : Ref sig .tc := ⟨.hbm, 71, rfl⟩
abbrev main_call2_v1 : Ref sig .tc := ⟨.hbm, 72, rfl⟩
abbrev main_v50 : Ref sig .tc := ⟨.hbm, 73, rfl⟩
abbrev main_call3_cst : Ref sig .tc := ⟨.hbm, 74, rfl⟩
abbrev main_call3_v0 : Ref sig .tc := ⟨.hbm, 75, rfl⟩
abbrev main_call3_cst_0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_1 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_12 : Ref sig .tc := ⟨.hbm, 91, rfl⟩
abbrev main_v54 : Ref sig .tc := ⟨.hbm, 92, rfl⟩
abbrev main_v55 : Ref sig .tc := ⟨.hbm, 93, rfl⟩
abbrev main_c_13 : Ref sig .tc := ⟨.hbm, 94, rfl⟩
abbrev main_call4_v0 : Ref sig .tc := ⟨.hbm, 95, rfl⟩
abbrev main_call4_v1 : Ref sig .tc := ⟨.hbm, 96, rfl⟩
abbrev main_v56 : Ref sig .tc := ⟨.hbm, 97, rfl⟩
abbrev main_v57 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_c_1 : Ref sig .tc := ⟨.hbm, 107, rfl⟩
abbrev main_call5_c_2 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_3 : Ref sig .tc := ⟨.hbm, 115, rfl⟩
abbrev main_call5_v12 : Ref sig .tc := ⟨.hbm, 116, rfl⟩
abbrev main_call5_v13 : Ref sig .tc := ⟨.hbm, 117, rfl⟩
abbrev main_call5_cst : Ref sig .tc := ⟨.hbm, 118, rfl⟩
abbrev main_call5_v14 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_14 : Ref sig .tc := ⟨.hbm, 125, rfl⟩
abbrev main_v63 : Ref sig .tc := ⟨.hbm, 126, rfl⟩
abbrev main_cst_15 : Ref sig .tc := ⟨.hbm, 127, rfl⟩
abbrev main_v64 : Ref sig .tc := ⟨.hbm, 128, rfl⟩
abbrev main_v65 : Ref sig .tc := ⟨.hbm, 129, rfl⟩

abbrev nD : Nat := 1
abbrev τ : Topo := Topo.v7x

variable {F : FTy → Type} [FloatOps F]
-- ==== Proof.KernelIdealBody.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The counting kernel's body -/

/-- The sixteen rows of one channel that a trip reads, as a slab. -/
abbrev slab (x1 : Vec F S1x19x256x512 .f32) (off : Fin 4 → ℕ) (h : ∀ a, off a + S1x1x16x512.size a ≤ S1x19x256x512.size a) : Vec F S1x1x16x512 .f32 :=
  View.ld x1 (Rect.unit (s := S1x19x256x512) off S1x1x16x512.size h)

/-- The sixteen rows of the class map that a trip reads. -/
abbrev rows (x2 : Vec F S1x256x512 .i32) (k : Fin k0_t1_loop.trips) : Vec F S1x16x512 .i32 :=
  View.ld x2 (Rect.unit (s := S1x256x512) (k0_off1 k) S1x16x512.size (k0_off1_inb k))

/-- The sum over the channels of the exponentials, for the rows of trip `k`. -/
def expSum (x1 : Vec F S1x19x256x512 .f32) (k : Fin k0_t1_loop.trips) : FVec F S16x512 .f32 :=
  k0_pay34 (k0_pay27 (k0_pay20 (k0_pay13 (slab x1 (k0_off2 k) (k0_off2_inb k)) (slab x1 (k0_off3 k) (k0_off3_inb k)) (slab x1 (k0_off4 k) (k0_off4_inb k)) (slab x1 (k0_off5 k) (k0_off5_inb k)))
      (slab x1 (k0_off6 k) (k0_off6_inb k)) (slab x1 (k0_off7 k) (k0_off7_inb k)) (slab x1 (k0_off8 k) (k0_off8_inb k)) (slab x1 (k0_off9 k) (k0_off9_inb k)) (slab x1 (k0_off10 k) (k0_off10_inb k)))
      (slab x1 (k0_off11 k) (k0_off11_inb k)) (slab x1 (k0_off12 k) (k0_off12_inb k)) (slab x1 (k0_off13 k) (k0_off13_inb k)) (slab x1 (k0_off14 k) (k0_off14_inb k)) (slab x1 (k0_off15 k) (k0_off15_inb k)))
    (slab x1 (k0_off16 k) (k0_off16_inb k)) (slab x1 (k0_off17 k) (k0_off17_inb k)) (slab x1 (k0_off18 k) (k0_off18_inb k)) (slab x1 (k0_off19 k) (k0_off19_inb k)) (slab x1 (k0_off20 k) (k0_off20_inb k))

/-- The channel the class map picks, for the rows of trip `k`. -/
def picked (x1 : Vec F S1x19x256x512 .f32) (x2 : Vec F S1x256x512 .i32) (k : Fin k0_t1_loop.trips) : FVec F S16x512 .f32 :=
  k0_pay35 (k0_pay8 (rows x2 k)) (k0_pay28 (k0_pay8 (rows x2 k)) (k0_pay21 (k0_pay8 (rows x2 k)) (k0_pay14 (rows x2 k) (slab x1 (k0_off2 k) (k0_off2_inb k)) (slab x1 (k0_off3 k) (k0_off3_inb k)) (slab x1 (k0_off4 k) (k0_off4_inb k)) (slab x1 (k0_off5 k) (k0_off5_inb k)))
      (slab x1 (k0_off6 k) (k0_off6_inb k)) (slab x1 (k0_off7 k) (k0_off7_inb k)) (slab x1 (k0_off8 k) (k0_off8_inb k)) (slab x1 (k0_off9 k) (k0_off9_inb k)) (slab x1 (k0_off10 k) (k0_off10_inb k)))
      (slab x1 (k0_off11 k) (k0_off11_inb k)) (slab x1 (k0_off12 k) (k0_off12_inb k)) (slab x1 (k0_off13 k) (k0_off13_inb k)) (slab x1 (k0_off14 k) (k0_off14_inb k)) (slab x1 (k0_off15 k) (k0_off15_inb k)))
    (slab x1 (k0_off16 k) (k0_off16_inb k)) (slab x1 (k0_off17 k) (k0_off17_inb k)) (slab x1 (k0_off18 k) (k0_off18_inb k)) (slab x1 (k0_off19 k) (k0_off19_inb k)) (slab x1 (k0_off20 k) (k0_off20_inb k))

/-- What one trip adds to the two carried vectors: the count and the sum of the scores at most the threshold. -/
def trip (x1 : Vec F S1x19x256x512 .f32) (x2 : Vec F S1x256x512 .i32) (k : Fin k0_t1_loop.trips) (acc : FVec F S16x512 .f32 × FVec F S16x512 .f32) :
    FVec F S16x512 .f32 × FVec F S16x512 .f32 :=
  (k0_pay4 acc.1 (expSum x1 k) (picked x1 x2 k), k0_pay5 acc.2 (expSum x1 k) (picked x1 x2 k))

/-- The two carried vectors before trip `n`. -/
def carried (x1 : Vec F S1x19x256x512 .f32) (x2 : Vec F S1x256x512 .i32) : ℕ → FVec F S16x512 .f32 × FVec F S16x512 .f32
  | 0 => (k0_pay1, k0_pay1)
  | n + 1 => if h : n < k0_t1_loop.trips then trip x1 x2 ⟨n, h⟩ (carried x1 x2 n) else carried x1 x2 n

/-- The run's trip is `trip` of what the two buffers read as. -/
theorem tripR_eq (c : Dev nD) (i : grid0.Coords) (arg1 : Memref sig .tc .vmem S1x19x256x512 .f32) (harg1 : arg1.IsWhole) (arg2 : Memref sig .tc .vmem S1x256x512 .i32) (harg2 : arg2.IsWhole) (arg3 : Memref sig .tc .smem S1x1 .f32) (harg3 : arg3.IsWhole) (arg4 : Memref sig .tc .smem S1x1 .f32) (harg4 : arg4.IsWhole) (X1 : BufTy.Contents (Elt F) arg1.view.ty) (X2 : BufTy.Contents (Elt F) arg2.view.ty) (k) (acc) :
    tripR_k0_t1 (F := F) Variants.none c none i arg1 harg1 arg2 harg2 arg3 harg3 arg4 harg4 X1 X2 k acc = trip (arg1.view.read (Elt F) X1) (arg2.view.read (Elt F) X2) k acc := by
  unfold tripR_k0_t1 trip_k0_t1
  dsimp only
  rfl

theorem carried_eq (c : Dev nD) (i : grid0.Coords) (arg1 : Memref sig .tc .vmem S1x19x256x512 .f32) (harg1 : arg1.IsWhole) (arg2 : Memref sig .tc .vmem S1x256x512 .i32) (harg2 : arg2.IsWhole) (arg3 : Memref sig .tc .smem S1x1 .f32) (harg3 : arg3.IsWhole) (arg4 : Memref sig .tc .smem S1x1 .f32) (harg4 : arg4.IsWhole) (X1 : BufTy.Contents (Elt F) arg1.view.ty) (X2 : BufTy.Contents (Elt F) arg2.view.ty) (n : ℕ) :
    st_k0_t1 (F := F) Variants.none c none i arg1 harg1 arg2 harg2 arg3 harg3 arg4 harg4 X1 X2 (k0_pay1, k0_pay1) n
      = carried (arg1.view.read (Elt F) X1) (arg2.view.read (Elt F) X2) n := by
  induction n with
  | zero => rfl
  | succ n ih =>
    rw [st_k0_t1.eq_2, ih]; unfold st_k0_t1Step; rw [carried]
    by_cases h : n < k0_t1_loop.trips
    · rw [dif_pos h, dif_pos h, tripR_eq]
    · rw [dif_neg h, dif_neg h]

/-- The branch at the first grid point resets the two counters. -/
def first (i : grid0.Coords) : BitVec 1 := Scalar.cmpi .ne (Scalar.extui (Scalar.cmpi .eq (BitVec.ofNat 32 (i 0).val) 0#32) : BitVec 32) 0#32

/-- The one index of a counter. -/
abbrev o11 : S1x1.Idx := fun a => ⟨0, by fin_cases a <;> decide⟩

theorem idx11 (j : S1x1.Idx) : j = o11 := by
  funext a; apply Fin.ext
  have h := (j a).isLt
  have hs : S1x1.size a = 1 := by fin_cases a <;> rfl
  show (j a).val = 0
  omega

/-- A counter as a point finds it after the reset. -/
def found (i : grid0.Coords) (x : Vec F S1x1 .f32) : Elt F .f32 :=
  if first i = 1#1 then Scalar.ofBits .f32 0x00000000#32 else x o11
def cntAt (i : grid0.Coords) (x1 : Vec F S1x19x256x512 .f32) (x2 : Vec F S1x256x512 .i32) (x : Vec F S1x1 .f32) : Vec F S1x1 .f32 :=
  fun _ => k0_pay6 (carried x1 x2 k0_t1_loop.trips).1 (found i x)
def sumAt (i : grid0.Coords) (x1 : Vec F S1x19x256x512 .f32) (x2 : Vec F S1x256x512 .i32) (x : Vec F S1x1 .f32) : Vec F S1x1 .f32 :=
  fun _ => k0_pay7 (carried x1 x2 k0_t1_loop.trips).2 (found i x)

theorem zero2 : (![0, 0] : Fin S1x1.rank → ℕ) = fun _ => 0 := by funext a; fin_cases a <;> rfl

/-- A store of a whole buffer leaves the stored words. -/
theorem whole_read {κ : Kind} {sp : Space} {s : Shape} {e : EltTy} (v : View sig κ sp s e) {off : Fin s.rank → ℕ} (h0 : off = fun _ => 0) (hin : ∀ a, off a + s.size a ≤ s.size a)
    (f : v.ty.Contents (Elt F)) (w : s.Idx → Elt F e) :
    v.read (Elt F) (v.writes (Elt F) f [⟨Rect.unit (s := s) off s.size hin, w⟩]) = w := by
  have hc : ∀ y : s.Idx, ∃ p ∈ [(⟨Rect.unit (s := s) off s.size hin, w⟩ : View.Piece (Elt F) s e)], y ∈ p.1.set :=
    fun y => ⟨_, List.mem_singleton_self _, View.mem_set_unit_zero h0 hin y⟩
  rw [View.read_writes_eq_canon v f _ hc, View.canon_unit_zero h0]

/-- A store of a whole counter leaves the stored word. -/
theorem counter_read {off : Fin S1x1.rank → ℕ} (h0 : off = fun _ => 0) (m3 : Memref sig .tc .smem S1x1 .f32) (hin : ∀ a, off a + S1x1.size a ≤ S1x1.size a)
    (f : BufTy.Contents (Elt F) m3.view.ty) (w : S1x1.Idx → Elt F .f32) :
    m3.view.read (Elt F) (m3.view.writes (Elt F) f [⟨Rect.unit (s := S1x1) off S1x1.size hin, w⟩]) = w := by
  exact whole_read m3.view h0 hin f w

/-- What a load of a counter reads after the conditional reset. -/
theorem counter_found (i : grid0.Coords) {off : Fin S1x1.rank → ℕ} (h0 : off = fun _ => 0) (m3 : Memref sig .tc .smem S1x1 .f32) (hin : ∀ a, off a + S1x1.size a ≤ S1x1.size a)
    (f3 : BufTy.Contents (Elt F) m3.view.ty) (j : S1x1.Idx) :
    m3.view.readAt (Elt F) (Rect.unit (s := S1x1) off S1x1.size hin).toLoadRect
        (if _hc : first i = 1#1 then m3.view.writes (Elt F) f3 [⟨Rect.unit (s := S1x1) off S1x1.size hin, fun _ => Scalar.ofBits .f32 0x00000000#32⟩] else f3) j
      = found i (m3.view.read (Elt F) f3) := by
  rw [View.readAt_eq_ld, View.ld_unit_zero h0]
  unfold found
  by_cases hc : first i = 1#1
  · rw [dif_pos hc, if_pos hc, counter_read h0]
  · rw [dif_neg hc, if_neg hc, idx11 j]

theorem sound_kernel0 (c : Dev nD) (E : Set ℕ) (i : grid0.Coords) (arg1 : Memref sig .tc .vmem S1x19x256x512 .f32) (harg1 : arg1.IsWhole) (arg2 : Memref sig .tc .vmem S1x256x512 .i32) (harg2 : arg2.IsWhole) (arg3 : Memref sig .tc .smem S1x1 .f32) (harg3 : arg3.IsWhole) (arg4 : Memref sig .tc .smem S1x1 .f32) (harg4 : arg4.IsWhole)
    (x1 : Vec F S1x19x256x512 .f32) (x2 : Vec F S1x256x512 .i32) (x3 x4 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (iprop(owns (c : Thread nD τ) arg1 fullShare x1 ∗ owns (c : Thread nD τ) arg2 fullShare x2 ∗ owns (c : Thread nD τ) arg3 fullShare (cntAt i x1 x2 x3) ∗ owns (c : Thread nD τ) arg4 fullShare (sumAt i x1 x2 x4)) -∗ K ⟨⟩))
      ⊢ wp frame (wpE (defs₀ (F := F)) Variants.none c none) E (cc0__fast_body i arg1 harg1 arg2 harg2 arg3 harg3 arg4 harg4) K := by
  simp only [cc0__fast_body_eq_skeleton]; unfold cc0__fast_body_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [carried_eq]
    sl_unfold_words
    refine (counter_read zero2 arg3 _ _ _).trans ?_
    funext x
    exact congrArg _ (counter_found i zero2 arg3 _ _ _)
  iexists _; isplitr
  swap; · iexact H4
  ipureintro
  rw [carried_eq]
  sl_unfold_words
  refine (counter_read zero2 arg4 _ _ _).trans ?_
  funext x
  exact congrArg _ (counter_found i zero2 arg4 _ _ _)

/-! ## The score kernel's body -/

/-- The scores of a block of pixels: the channel the class map picks, less the logarithm of the sum of the exponentials. -/
def score (x1 : Vec F S1x19x256x512 .f32) (x2 : Vec F S1x256x512 .i32) : Vec F S1x256x512 .f32 :=
  k1_pay1 (k1_pay2 x1) (k1_pay3 x2) (k1_pay19 (k1_pay2 x1) (k1_pay11 x1)) (k1_pay20 (k1_pay2 x1) (k1_pay3 x2) (k1_pay9 x1 x2) (k1_pay10 x1))

theorem zero4 : (![0, 0, 0, 0] : Fin S1x19x256x512.rank → ℕ) = fun _ => 0 := by funext a; fin_cases a <;> rfl
theorem zero3 : (![0, 0, 0] : Fin S1x256x512.rank → ℕ) = fun _ => 0 := by funext a; fin_cases a <;> rfl

/-- A store of a whole block leaves the stored block. -/
theorem block_read (m3 : Memref sig .tc .vmem S1x256x512 .f32) (hin : ∀ a, (![0, 0, 0] : Fin S1x256x512.rank → ℕ) a + S1x256x512.size a ≤ S1x256x512.size a)
    (f : BufTy.Contents (Elt F) m3.view.ty) (w : S1x256x512.Idx → Elt F .f32) :
    m3.view.read (Elt F) (m3.view.writes (Elt F) f [⟨Rect.unit (s := S1x256x512) ![0, 0, 0] S1x256x512.size hin, w⟩]) = w := by
  exact whole_read m3.view zero3 hin f w

theorem load_logits (m1 : Memref sig .tc .vmem S1x19x256x512 .f32) (hin : ∀ a, (![0, 0, 0, 0] : Fin S1x19x256x512.rank → ℕ) a + S1x19x256x512.size a ≤ S1x19x256x512.size a)
    (f : BufTy.Contents (Elt F) m1.view.ty) :
    m1.view.readAt (Elt F) (Rect.unit (s := S1x19x256x512) ![0, 0, 0, 0] S1x19x256x512.size hin).toLoadRect f = m1.view.read (Elt F) f := by
  rw [View.readAt_eq_ld, View.ld_unit_zero zero4]

theorem load_classes (m2 : Memref sig .tc .vmem S1x256x512 .i32) (hin : ∀ a, (![0, 0, 0] : Fin S1x256x512.rank → ℕ) a + S1x256x512.size a ≤ S1x256x512.size a)
    (f : BufTy.Contents (Elt F) m2.view.ty) :
    m2.view.readAt (Elt F) (Rect.unit (s := S1x256x512) ![0, 0, 0] S1x256x512.size hin).toLoadRect f = m2.view.read (Elt F) f := by
  rw [View.readAt_eq_ld, View.ld_unit_zero zero3]

theorem sound_kernel1 (c : Dev nD) (E : Set ℕ) (i : grid1.Coords) (arg1 : Memref sig .tc .vmem S1x19x256x512 .f32) (harg1 : arg1.IsWhole) (arg2 : Memref sig .tc .vmem S1x256x512 .i32) (harg2 : arg2.IsWhole) (arg3 : Memref sig .tc .vmem S1x256x512 .f32) (harg3 : arg3.IsWhole)
    (x1 : Vec F S1x19x256x512 .f32) (x2 : Vec F S1x256x512 .i32) (x3 : Vec F S1x256x512 .f32) (K : PUnit → sProp 𝕄) :
    iprop(owns (c : Thread nD τ) arg1 fullShare x1 ∗ owns (c : Thread nD τ) arg2 fullShare x2 ∗ owns (c : Thread nD τ) arg3 fullShare x3
        ∗ (iprop(owns (c : Thread nD τ) arg1 fullShare x1 ∗ owns (c : Thread nD τ) arg2 fullShare x2 ∗ owns (c : Thread nD τ) arg3 fullShare (score x1 x2)) -∗ K ⟨⟩))
      ⊢ wp frame (wpE (defs₀ (F := F)) Variants.none c none) E (cc1__s_body i arg1 harg1 arg2 harg2 arg3 harg3) K := by
  simp only [cc1__s_body_eq_skeleton]; unfold cc1__s_body_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (block_read arg3 _ _ _).trans ?_
  unfold score
  rw [← load_logits arg1 inb_S1x19x256x512_S1x19x256x512_0_0_0_0 f1, ← load_classes arg2 inb_S1x256x512_S1x256x512_0_0_0 f2]

end Cert.KernelIdeal.Hand
-- ==== Proof.KernelIdealCalls.lean ====
module

public import proofs.«01_k».proof.Proof.KernelIdealBody
public import Idealize.ShloMosaic.Lib.Quiescent
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The two calls' proof data, from the contents each finds -/

/-- The logits' and the class map's blocks at a grid point, read off the contents `V`. -/
def logits0 (V : Valuation τ sig (Elt F)) (t : Fin cfg0.N) : Vec F S1x19x256x512 .f32 := ((cfg0.win 0).blk t).view.read (Elt F) (V main_arg0)
def classes0 (V : Valuation τ sig (Elt F)) (t : Fin cfg0.N) : Vec F S1x256x512 .i32 := ((cfg0.win 1).blk t).view.read (Elt F) (V main_arg1)
def logits1 (V : Valuation τ sig (Elt F)) (t : Fin cfg1.N) : Vec F S1x19x256x512 .f32 := ((cfg1.win 0).blk t).view.read (Elt F) (V main_arg0)
def classes1 (V : Valuation τ sig (Elt F)) (t : Fin cfg1.N) : Vec F S1x256x512 .i32 := ((cfg1.win 1).blk t).view.read (Elt F) (V main_arg1)

/-- The two counters after `n` grid points. -/
def cnt (V : Valuation τ sig (Elt F)) : ℕ → Vec F S1x1 .f32
  | 0 => fun _ => Scalar.ofBits .f32 0x00000000#32
  | n + 1 => if h : n < cfg0.N then cntAt (grid0.coords ⟨n, h⟩) (logits0 V ⟨n, h⟩) (classes0 V ⟨n, h⟩) (cnt V n) else cnt V n
def tot (V : Valuation τ sig (Elt F)) : ℕ → Vec F S1x1 .f32
  | 0 => fun _ => Scalar.ofBits .f32 0x00000000#32
  | n + 1 => if h : n < cfg0.N then sumAt (grid0.coords ⟨n, h⟩) (logits0 V ⟨n, h⟩) (classes0 V ⟨n, h⟩) (tot V n) else tot V n

/-- The counting call's proof data. -/
def dat0 (V : Valuation τ sig (Elt F)) (c : Dev nD) : Dat τ (Elt F) Unit ℕ (UR sig nD τ) ℕ cfg0 c where
  A w := V (Proc.devRef .tc (Pipeline.arrRef spec0 w))
  after w t := match w with
    | ⟨0, _⟩ => logits0 V t
    | ⟨1, _⟩ => classes0 V t
    | ⟨2, _⟩ => cnt V (t.val + 1)
    | ⟨3, _⟩ => tot V (t.val + 1)
  Φ _ := Pipeline.scopedRest spec0 c
  q _ := fullShare
  owed _ := 0

/-- The score call's proof data. -/
def dat1 (V : Valuation τ sig (Elt F)) (c : Dev nD) : Dat τ (Elt F) Unit ℕ (UR sig nD τ) ℕ cfg1 c where
  A w := V (Proc.devRef .tc (Pipeline.arrRef spec1 w))
  after w t := match w with
    | ⟨0, _⟩ => logits1 V t
    | ⟨1, _⟩ => classes1 V t
    | ⟨2, _⟩ => score (logits1 V t) (classes1 V t)
  Φ _ := Pipeline.scopedRest spec1 c
  q _ := fullShare
  owed _ := 0

section Call0
variable (V : Valuation τ sig (Elt F)) (c : Dev nD)

theorem A0_eq (w : Fin cfg0.W) : (dat0 V c).A w = V (Proc.devRef .tc (Pipeline.arrRef spec0 w)) := by dsimp only [dat0]
theorem after0_0 (t : Fin cfg0.N) : (dat0 V c).after 0 t = logits0 V t := by dsimp only [dat0]
theorem after0_1 (t : Fin cfg0.N) : (dat0 V c).after 1 t = classes0 V t := by dsimp only [dat0]
theorem after0_2 (t : Fin cfg0.N) : (dat0 V c).after 2 t = cnt V (t.val + 1) := by dsimp only [dat0]
theorem after0_3 (t : Fin cfg0.N) : (dat0 V c).after 3 t = tot V (t.val + 1) := by dsimp only [dat0]

theorem before0_0 (t : Fin cfg0.N) (d) : (dat0 V c).before 0 t d = logits0 V t :=
  ((dat0 V c).before_in_eq_fetched 0 rfl (fun _ => rfl) (fun _ _ _ => rfl) (fun t => by rw [after0_0]; rfl) t d)
theorem before0_1 (t : Fin cfg0.N) (d) : (dat0 V c).before 1 t d = classes0 V t :=
  ((dat0 V c).before_in_eq_fetched 1 rfl (fun _ => rfl) (fun _ _ _ => rfl) (fun t => by rw [after0_1]; rfl) t d)

theorem first_zero : ∀ t : Fin grid0.N, t.val = 0 → first (grid0.coords t) = 1#1 := by decide +kernel

theorem found_first (i : grid0.Coords) (h : first i = 1#1) (x y : Vec F S1x1 .f32) : found i x = found i y := by
  unfold found; rw [if_pos h, if_pos h]

/-- What a point leaves in the count, from whatever it found there. -/
theorem cnt_step (t : Fin cfg0.N) (d) : cntAt (grid0.coords t) (logits0 V t) (classes0 V t) ((dat0 V c).before 2 t d) = cnt V (t.val + 1) := by
  have hN : t.val < 16 := by have := t.isLt; have h := N_0; exact h ▸ this
  have hs : cnt V (t.val + 1) = cntAt (grid0.coords t) (logits0 V t) (classes0 V t) (cnt V t.val) := by
    rw [cnt, dif_pos t.isLt]
  rw [hs]
  by_cases h0 : t.val = 0
  · unfold cntAt; rw [found_first _ (first_zero t h0) _ (cnt V t.val)]
  · have hfl : (cfg0.win 2).flush ⟨t.val - 1, Nat.lt_of_le_of_lt (Nat.sub_le _ _) t.isLt⟩ = false := by
      rw [Bool.eq_false_iff]; intro h; have := (flush0_2 _).mp h; dsimp only at this; omega
    rw [(dat0 V c).before_out_kept 2 rfl t h0 hfl (fun _ => rfl) (fun _ _ => rfl) d, after0_2]
    congr 2; dsimp only; omega

/-- What a point leaves in the sum, from whatever it found there. -/
theorem tot_step (t : Fin cfg0.N) (d) : sumAt (grid0.coords t) (logits0 V t) (classes0 V t) ((dat0 V c).before 3 t d) = tot V (t.val + 1) := by
  have hN : t.val < 16 := by have := t.isLt; have h := N_0; exact h ▸ this
  have hs : tot V (t.val + 1) = sumAt (grid0.coords t) (logits0 V t) (classes0 V t) (tot V t.val) := by
    rw [tot, dif_pos t.isLt]
  rw [hs]
  by_cases h0 : t.val = 0
  · unfold sumAt; rw [found_first _ (first_zero t h0) _ (tot V t.val)]
  · have hfl : (cfg0.win 3).flush ⟨t.val - 1, Nat.lt_of_le_of_lt (Nat.sub_le _ _) t.isLt⟩ = false := by
      rw [Bool.eq_false_iff]; intro h; have := (flush0_3 _).mp h; dsimp only at this; omega
    rw [(dat0 V c).before_out_kept 3 rfl t h0 hfl (fun _ => rfl) (fun _ _ => rfl) d, after0_3]
    congr 2; dsimp only; omega

/-- What the counting body is called with at a point, -/
def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  rw [← cnt_step V c t d2, ← tot_step V c t d3]
  iapply (sound_kernel0 c Set.univ _ _ _ _ _ _ _ _ _ (logits0 V t) (classes0 V t) ((dat0 V c).before 2 t d2) ((dat0 V c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) : defs₀ (F := F) .tc cfg0.body (cfg0.bodyArgs t (cfg0.slots t)) = bodyAt0 t := by
  unfold defs₀; rw [Defs.onTc_tc]

theorem body_obligation0 : BodyObligation (dat0 V c) (defs₀ (F := F)) Variants.none () Set.univ := fun t => by
  rw [bigSep_W0, bigSep_W0, defs₀_row0]
  exact triple_restated (sound_body0 V c t) rfl .rfl fun _ => .rfl

end Call0

section Call1
variable (V : Valuation τ sig (Elt F)) (c : Dev nD)

theorem A1_eq (w : Fin cfg1.W) : (dat1 V c).A w = V (Proc.devRef .tc (Pipeline.arrRef spec1 w)) := by dsimp only [dat1]
theorem after1_0 (t : Fin cfg1.N) : (dat1 V c).after 0 t = logits1 V t := by dsimp only [dat1]
theorem after1_1 (t : Fin cfg1.N) : (dat1 V c).after 1 t = classes1 V t := by dsimp only [dat1]
theorem after1_2 (t : Fin cfg1.N) : (dat1 V c).after 2 t = score (logits1 V t) (classes1 V t) := by dsimp only [dat1]

theorem before1_0 (t : Fin cfg1.N) (d) : (dat1 V c).before 0 t d = logits1 V t :=
  ((dat1 V c).before_in_eq_fetched 0 rfl (fun _ => rfl) (fun _ _ _ => rfl) (fun t => by rw [after1_0]; rfl) t d)
theorem before1_1 (t : Fin cfg1.N) (d) : (dat1 V c).before 1 t d = classes1 V t :=
  ((dat1 V c).before_in_eq_fetched 1 rfl (fun _ => rfl) (fun _ _ _ => rfl) (fun t => by rw [after1_1]; rfl) t d)

/-- What the score body is called with at a point, -/
def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (logits1 V t) (classes1 V t) ((dat1 V c).before 2 t d2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) : defs₀ (F := F) .tc cfg1.body (cfg1.bodyArgs t (cfg1.slots t)) = bodyAt1 t := by
  unfold defs₀; rw [Defs.onTc_tc]

theorem body_obligation1 : BodyObligation (dat1 V c) (defs₀ (F := F)) Variants.none () Set.univ := fun t => by
  rw [bigSep_W1, bigSep_W1, defs₀_row1]
  exact triple_restated (sound_body1 V c t) rfl .rfl fun _ => .rfl

end Call1

/-! ## @main's stretches and the contents along them -/

/-- The element @main branches on. -/
abbrev wordOp : HloOp τ sig (Elt F) := StableHlo.unary main_v3 main_v4 ((extui 32 · natLt_1_32) : (⟨S_, .i1⟩ : BufTy).Contents (Elt F) → (⟨S_, .i32⟩ : BufTy).Contents (Elt F))

/-- The slow branch's operations after the score call. -/
abbrev slowOps : List (HloOp τ sig (Elt F)) :=
  [ StableHlo.reshape main_case0b0_v6 main_case0b0_v7 (rfl : (.f32 : EltTy) = .f32) shapeCasts_S8x512x512_S2097152,
    StableHlo.unary main_case0b0_v7 main_case0b0_v8 ((fun x => Host.sort S2097152 0 comparator_f32_d0 x) : (⟨S2097152, .f32⟩ : BufTy).Contents (Elt F) → (⟨S2097152, .f32⟩ : BufTy).Contents (Elt F)),
    StableHlo.unary main_case0b0_v8 main_case0b0_v9 ((extractStridedSlice S1 ![99999] · slices_S2097152_S1_99999) : (⟨S2097152, .f32⟩ : BufTy).Contents (Elt F) → (⟨S1, .f32⟩ : BufTy).Contents (Elt F)),
    StableHlo.reshape main_case0b0_v9 main_case0b0_v10 (rfl : (.f32 : EltTy) = .f32) shapeCasts_S1_S_,
    StableHlo.unary main_case0b0_v10 main_case0b0_v11 (broadcastInDim S2097152 ![] bcast_S_S2097152 : (⟨S_, .f32⟩ : BufTy).Contents (Elt F) → (⟨S2097152, .f32⟩ : BufTy).Contents (Elt F)),
    StableHlo.binary main_case0b0_v7 main_case0b0_v11 main_case0b0_v12 (cmpf .ole : (⟨S2097152, .f32⟩ : BufTy).Contents (Elt F) → (⟨S2097152, .f32⟩ : BufTy).Contents (Elt F) → (⟨S2097152, .i1⟩ : BufTy).Contents (Elt F)),
    StableHlo.unary main_case0b0_v12 main_case0b0_v13 (uitofp .f32 : (⟨S2097152, .i1⟩ : BufTy).Contents (Elt F) → (⟨S2097152, .f32⟩ : BufTy).Contents (Elt F)),
    StableHlo.nullary main_case0b0_cst_0 (constant S_ .f32 0x00000000#32),
    StableHlo.binary main_case0b0_v13 main_case0b0_cst_0 main_case0b0_v14 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_case0b0_cst_1 (constant S_ .f32 0x00000000#32),
    StableHlo.unary main_case0b0_cst_1 main_case0b0_call0_v0 (id : (⟨S_, .f32⟩ : BufTy).Contents (Elt F) → (⟨S_, .f32⟩ : BufTy).Contents (Elt F)),
    StableHlo.unary main_case0b0_call0_v0 main_case0b0_call0_v1 (broadcastInDim S2097152 ![] bcast_S_S2097152 : (⟨S_, .f32⟩ : BufTy).Contents (Elt F) → (⟨S2097152, .f32⟩ : BufTy).Contents (Elt F)),
    StableHlo.ternary main_case0b0_v12 main_case0b0_v7 main_case0b0_call0_v1 main_case0b0_v15 (select : (⟨S2097152, .i1⟩ : BufTy).Contents (Elt F) → (⟨S2097152, .f32⟩ : BufTy).Contents (Elt F) → (⟨S2097152, .f32⟩ : BufTy).Contents (Elt F) → (⟨S2097152, .f32⟩ : BufTy).Contents (Elt F)),
    StableHlo.nullary main_case0b0_cst_2 (constant S_ .f32 0x00000000#32),
    StableHlo.binary main_case0b0_v15 main_case0b0_cst_2 main_case0b0_v16 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.unary main_case0b0_v16 main_case0b0_v17 (Host.negf : (⟨S_, .f32⟩ : BufTy).Contents (Elt F) → (⟨S_, .f32⟩ : BufTy).Contents (Elt F)),
    StableHlo.binary main_case0b0_v17 main_case0b0_v14 main_case0b0_v18 (Host.divf : (⟨S_, .f32⟩ : BufTy).Contents (Elt F) → (⟨S_, .f32⟩ : BufTy).Contents (Elt F) → (⟨S_, .f32⟩ : BufTy).Contents (Elt F)),
    StableHlo.unary main_case0b0_v18 main_v5 (id : (⟨S_, .f32⟩ : BufTy).Contents (Elt F) → (⟨S_, .f32⟩ : BufTy).Contents (Elt F)) ]
theorem slowOps_sub : (slowOps : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.binary_bufs_sub .., StableHlo.unary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.nullary_bufs_sub .., StableHlo.binary_bufs_sub .., StableHlo.unary_bufs_sub .., StableHlo.binary_bufs_sub .., StableHlo.unary_bufs_sub ..⟩
theorem slowOps_fresh : (slowOps : List (HloOp τ sig (Elt F))).Forall fun op => op.fresh = ∅ :=
  ⟨rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ := ⟨rfl, rfl, rfl, rfl⟩

/-- The fast branch's operations. -/
abbrev fastOps : List (HloOp τ sig (Elt F)) :=
  [ StableHlo.unary main_v2 main_case0b1_v6 (Host.negf : (⟨S_, .f32⟩ : BufTy).Contents (Elt F) → (⟨S_, .f32⟩ : BufTy).Contents (Elt F)),
    StableHlo.binary main_case0b1_v6 main_v1 main_case0b1_v7 (Host.divf : (⟨S_, .f32⟩ : BufTy).Contents (Elt F) → (⟨S_, .f32⟩ : BufTy).Contents (Elt F) → (⟨S_, .f32⟩ : BufTy).Contents (Elt F)),
    StableHlo.unary main_case0b1_v7 main_v5 (id : (⟨S_, .f32⟩ : BufTy).Contents (Elt F) → (⟨S_, .f32⟩ : BufTy).Contents (Elt F)) ]
theorem fastOps_sub : (fastOps : List (HloOp τ sig (Elt F))).Forall fun op => op.bufs ⊆ StableHlo.tcRefs τ sig :=
  ⟨StableHlo.unary_bufs_sub .., StableHlo.binary_bufs_sub .., StableHlo.unary_bufs_sub ..⟩
theorem fastOps_fresh : (fastOps : List (HloOp τ sig (Elt F))).Forall fun op => op.fresh = ∅ := ⟨rfl, rfl, rfl⟩

variable (m : (ℓ : Loc nD τ sig) → Buf (Elt F) ℓ) (ρ : Dev nD → PrngReg)

/-- The contents at launch, -/
def V0 (c : Dev nD) : Valuation τ sig (Elt F) := fun b => m (c, b)
/-- after the counting call, -/
def V1 (c : Dev nD) : Valuation τ sig (Elt F) :=
  Function.update (Function.update (V0 m c) (Proc.devRef .tc main_v0_0) ((dat0 (V0 m c) c).arrAt 2 cfg0.N)) (Proc.devRef .tc main_v0_1) ((dat0 (V0 m c) c).arrAt 3 cfg0.N)
/-- after the comparison, -/
def V2 (c : Dev nD) : Valuation τ sig (Elt F) := StableHlo.after hostOps1 (V1 m c)
/-- after the branch's element, -/
def V3 (c : Dev nD) : Valuation τ sig (Elt F) := (wordOp (F := F)).result (V2 m c)
/-- after the score call, -/
def V4 (c : Dev nD) : Valuation τ sig (Elt F) := Function.update (V3 m c) (Proc.devRef .tc main_case0b0_v6) ((dat1 (V3 m c) c).arrAt 2 cfg1.N)
/-- at the end of the slow branch, -/
def V5 (c : Dev nD) : Valuation τ sig (Elt F) := StableHlo.after slowOps (V4 m c)
/-- at the end of the fast branch. -/
def V6 (c : Dev nD) : Valuation τ sig (Elt F) := StableHlo.after fastOps (V3 m c)

/-- The element read. -/
def word (c : Dev nD) : BitVec 32 := ((V2 m c main_v3 : (⟨S_, .i1⟩ : BufTy).Contents (Elt F)) HostLoop.idx0 : BitVec 1).setWidth 32
/-- Whether the slow branch runs. -/
def slow (c : Dev nD) : Prop := HostLoop.branch (word m c) 1 = 0
instance (c : Dev nD) : Decidable (slow m c) := by unfold slow; infer_instance
/-- The contents at the end. -/
def Vend (c : Dev nD) : Valuation τ sig (Elt F) := if slow m c then V5 m c else V6 m c

end Cert.KernelIdeal.Hand
-- ==== Proof.KernelIdealRun.lean ====
module

public import proofs.«01_k».proof.Proof.KernelIdealCalls
public import Idealize.ShloMosaic.Lib.Quiescent
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch -/

def EP : Emb (UR sig nD τ) (MT nD τ sig Unit (Elt F) ℕ (UR sig nD τ) ℕ) :=
  (Emb.refl _).trans (uEmb (nD := nD) (sig := sig) (Ix := Unit) (Val := Elt F) (Name := ℕ) (U := UR sig nD τ) (Lvl := ℕ)).toEmb
instance EP_landsIn : (EP : Emb (UR sig nD τ) 𝕄).LandsIn (upEmb : UEmb _ 𝕄) := by unfold EP; infer_instance

abbrev adm : (p : Fin 2) → (pcfgs (F := F) p).Adm := fun p => (cfgs p).toPCfg_adm
/-- The two calls' proof data. -/
def pdats : (p : Fin 2) → (c : Dev nD) → Dat τ (Elt F) Unit ℕ (UR sig nD τ) ℕ (Pipeline.pin (pcfgs (F := F)) adm p) c
  | 0 => fun c => dat0 (V0 m c) c
  | 1 => fun c => dat1 (V3 m c) c

/-- One wait index at every TensorCore cell. -/
def L : GSem nD τ sig → Finset Unit := fun g => if g.1.2 = .tc then {()} else ∅
def lv : GSem nD τ sig → Unit → ℕ := fun _ _ => 0

/-- A thread state: every unscoped buffer held at `V`, nothing owed. -/
def state (V : Dev nD → Valuation τ sig (Elt F)) (c : Dev nD) : sProp 𝕄 :=
  iprop(StableHlo.held (c.tc : Thread nD τ) (Pipeline.ucRefs τ sig) (V c) ∗ ∃ Wd, owes (c : Thread nD τ) (0 : CellTallies nD τ sig Unit) Wd)

theorem cut0 : Pipeline.LevelCut (pcfgs (F := F)) adm () L lv 0 (fun _ => 0) (fun _ => 0) where
  hι _ _ _ := by unfold L; rw [if_pos rfl]; exact Finset.mem_singleton_self _
  hιb _ _ _ := le_rfl
  hD _ _ _ h := absurd h (lt_irrefl _)
theorem cut1 : Pipeline.LevelCut (pcfgs (F := F)) adm () L lv 1 (fun _ => 0) (fun _ => 0) where
  hι _ _ _ := by unfold L; rw [if_pos rfl]; exact Finset.mem_singleton_self _
  hιb _ _ _ := le_rfl
  hD _ _ _ h := absurd h (lt_irrefl _)

theorem V1_0 (c : Dev nD) : V1 m c main_v0_0 = (dat0 (V0 m c) c).arrAt 2 cfg0.N := by
  unfold V1; rw [Function.update_of_ne (by decide), Function.update_self]
theorem V1_1 (c : Dev nD) : V1 m c main_v0_1 = (dat0 (V0 m c) c).arrAt 3 cfg0.N := by
  unfold V1; rw [Function.update_self]
theorem V1_ne (c : Dev nD) (b : DevRef τ sig) (h0 : b ≠ Proc.devRef .tc main_v0_0) (h1 : b ≠ Proc.devRef .tc main_v0_1) : V1 m c b = V0 m c b := by
  unfold V1; rw [Function.update_of_ne h1, Function.update_of_ne h0]
theorem V4_6 (c : Dev nD) : V4 m c main_case0b0_v6 = (dat1 (V3 m c) c).arrAt 2 cfg1.N := by
  unfold V4; rw [Function.update_self]
theorem V4_ne (c : Dev nD) (b : DevRef τ sig) (h0 : b ≠ Proc.devRef .tc main_case0b0_v6) : V4 m c b = V3 m c b := by
  unfold V4; rw [Function.update_of_ne h0]

theorem exit0 (c : Dev nD) (w : Fin cfg0.W) : (dat0 (V0 m c) c).arrAt w cfg0.N = V1 m c (Proc.devRef .tc (Pipeline.arrRef spec0 w)) := by
  match w with
  | ⟨0, _⟩ => exact ((dat0 (V0 m c) c).arrAt_in 0 rfl _).trans ((A0_eq (V0 m c) c 0).trans (V1_ne m c (Proc.devRef .tc main_arg0) (by decide) (by decide)).symm)
  | ⟨1, _⟩ => exact ((dat0 (V0 m c) c).arrAt_in 1 rfl _).trans ((A0_eq (V0 m c) c 1).trans (V1_ne m c (Proc.devRef .tc main_arg1) (by decide) (by decide)).symm)
  | ⟨2, _⟩ => exact (V1_0 m c).symm
  | ⟨3, _⟩ => exact (V1_1 m c).symm

theorem exit1 (c : Dev nD) (w : Fin cfg1.W) : (dat1 (V3 m c) c).arrAt w cfg1.N = V4 m c (Proc.devRef .tc (Pipeline.arrRef spec1 w)) := by
  match w with
  | ⟨0, _⟩ => exact ((dat1 (V3 m c) c).arrAt_in 0 rfl _).trans ((A1_eq (V3 m c) c 0).trans (V4_ne m c (Proc.devRef .tc main_arg0) (by decide)).symm)
  | ⟨1, _⟩ => exact ((dat1 (V3 m c) c).arrAt_in 1 rfl _).trans ((A1_eq (V3 m c) c 1).trans (V4_ne m c (Proc.devRef .tc main_arg1) (by decide)).symm)
  | ⟨2, _⟩ => exact (V4_6 m c).symm

theorem drop_emp (P : sProp 𝕄) : iprop(P ∗ emp) ⊢ P := by
  iintro ⟨H, -⟩; iexact H
theorem add_emp (P : sProp 𝕄) : P ⊢ iprop(P ∗ emp) := by
  iintro H
  isplitl [H]; · iexact H
  iempintro

theorem phi0 (c : Dev nD) (t) : (pdats m 0 c).Φ t = Pipeline.scopedRest (Ix := Unit) (Val := Elt F) (Name := ℕ) (U := UR sig nD τ) (Lvl := ℕ) spec0 c := rfl
theorem hin0 (c : Dev nD) : iprop(Pipeline.scopedRest (Ix := Unit) (Val := Elt F) (Name := ℕ) (U := UR sig nD τ) (Lvl := ℕ) (Pipeline.pin (pcfgs (F := F)) adm 0).spec c ∗ emp) ⊢ (pdats m 0 c).Φ 0 := by
  rw [phi0]; exact drop_emp _
theorem hout0 (c : Dev nD) : (pdats m 0 c).Φ (Fin.last (Pipeline.pin (pcfgs (F := F)) adm 0).N) ⊢ iprop(Pipeline.scopedRest (Ix := Unit) (Val := Elt F) (Name := ℕ) (U := UR sig nD τ) (Lvl := ℕ) (Pipeline.pin (pcfgs (F := F)) adm 0).spec c ∗ emp) := by
  rw [phi0]; exact add_emp _
theorem phi1 (c : Dev nD) (t) : (pdats m 1 c).Φ t = Pipeline.scopedRest (Ix := Unit) (Val := Elt F) (Name := ℕ) (U := UR sig nD τ) (Lvl := ℕ) spec1 c := rfl
theorem hin1 (c : Dev nD) : iprop(Pipeline.scopedRest (Ix := Unit) (Val := Elt F) (Name := ℕ) (U := UR sig nD τ) (Lvl := ℕ) (Pipeline.pin (pcfgs (F := F)) adm 1).spec c ∗ emp) ⊢ (pdats m 1 c).Φ 0 := by
  rw [phi1]; exact drop_emp _
theorem hout1 (c : Dev nD) : (pdats m 1 c).Φ (Fin.last (Pipeline.pin (pcfgs (F := F)) adm 1).N) ⊢ iprop(Pipeline.scopedRest (Ix := Unit) (Val := Elt F) (Name := ℕ) (U := UR sig nD τ) (Lvl := ℕ) (Pipeline.pin (pcfgs (F := F)) adm 1).spec c ∗ emp) := by
  rw [phi1]; exact add_emp _

set_option backward.isDefEq.respectTransparency.types false in
/-- The counting call's region. -/
def reg0 : Pipeline.RegionSeg (pcfgs (F := F)) adm (pdats m) () defs₀ Variants.none L lv 0 :=
  Pipeline.RegionSeg.ofHeld (pcfgs (F := F)) adm (pdats m) () defs₀ Variants.none L lv 0 (fun _ => 0) (fun _ => iprop(emp)) (fun _ => iprop(emp)) launch0.toP rfl
    (fun c => (body_obligation0 (V0 m c) c).loose) (fun _ _ => rfl) (fun _ => rfl) (fun c w => (dat0 (V0 m c) c).share_full (fun _ => rfl) w)
    (hin0 m) (hout0 m)
    (fun _ => 0) cut0 (fun c => StableHlo.held (c.tc : Thread nD τ) (Pipeline.ucRefs τ sig \ Pipeline.arrRefs spec0) (V0 m c)) (V0 m) (V1 m)
    (fun c w => A0_eq (V0 m c) c w) (fun c w => exit0 m c w)

set_option backward.isDefEq.respectTransparency.types false in
/-- The score call's region. -/
def reg1 : Pipeline.RegionSeg (pcfgs (F := F)) adm (pdats m) () defs₀ Variants.none L lv 1 :=
  Pipeline.RegionSeg.ofHeld (pcfgs (F := F)) adm (pdats m) () defs₀ Variants.none L lv 1 (fun _ => 0) (fun _ => iprop(emp)) (fun _ => iprop(emp)) launch1.toP rfl
    (fun c => (body_obligation1 (V3 m c) c).loose) (fun _ _ => rfl) (fun _ => rfl) (fun c w => (dat1 (V3 m c) c).share_full (fun _ => rfl) w)
    (hin1 m) (hout1 m)
    (fun _ => 0) cut1 (fun c => StableHlo.held (c.tc : Thread nD τ) (Pipeline.ucRefs τ sig \ Pipeline.arrRefs spec1) (V3 m c)) (V3 m) (V4 m)
    (fun c w => A1_eq (V3 m c) c w) (fun c w => exit1 m c w)

/-- A thread state splits at a call's arrays. -/
theorem state_split0 (V : Dev nD → Valuation τ sig (Elt F)) (c : Dev nD) :
    (StableHlo.held (c.tc : Thread nD τ) (Pipeline.ucRefs τ sig) (V c) : sProp 𝕄)
      = iprop(StableHlo.held (c.tc : Thread nD τ) (Pipeline.arrRefs spec0) (V c) ∗ StableHlo.held (c.tc : Thread nD τ) (Pipeline.ucRefs τ sig \ Pipeline.arrRefs spec0) (V c)) :=
  StableHlo.held_sub_split _ (Pipeline.arrRefs_sub_ucRefs spec0 (by decide)) (V c)
theorem state_split1 (V : Dev nD → Valuation τ sig (Elt F)) (c : Dev nD) :
    (StableHlo.held (c.tc : Thread nD τ) (Pipeline.ucRefs τ sig) (V c) : sProp 𝕄)
      = iprop(StableHlo.held (c.tc : Thread nD τ) (Pipeline.arrRefs spec1) (V c) ∗ StableHlo.held (c.tc : Thread nD τ) (Pipeline.ucRefs τ sig \ Pipeline.arrRefs spec1) (V c)) :=
  StableHlo.held_sub_split _ (Pipeline.arrRefs_sub_ucRefs spec1 (by decide)) (V c)

theorem notin0 (b : DevRef τ sig) (h : b ∈ Pipeline.ucRefs τ sig \ Pipeline.arrRefs spec0) : b ≠ Proc.devRef .tc main_v0_0 ∧ b ≠ Proc.devRef .tc main_v0_1 := by
  have h' := (Finset.mem_sdiff.mp h).2
  refine ⟨fun e => h' (e ▸ ?_), fun e => h' (e ▸ ?_)⟩
  · exact Finset.mem_map.mpr ⟨main_v0_0, Finset.mem_image.mpr ⟨2, Finset.mem_univ _, rfl⟩, rfl⟩
  · exact Finset.mem_map.mpr ⟨main_v0_1, Finset.mem_image.mpr ⟨3, Finset.mem_univ _, rfl⟩, rfl⟩
theorem notin1 (b : DevRef τ sig) (h : b ∈ Pipeline.ucRefs τ sig \ Pipeline.arrRefs spec1) : b ≠ Proc.devRef .tc main_case0b0_v6 := by
  have h' := (Finset.mem_sdiff.mp h).2
  exact fun e => h' (e ▸ Finset.mem_map.mpr ⟨main_case0b0_v6, Finset.mem_image.mpr ⟨2, Finset.mem_univ _, rfl⟩, rfl⟩)

set_option backward.isDefEq.respectTransparency.types false in
theorem reg0_pre (c : Dev nD) : state (V0 m) c ⊢ (reg0 m).pre c := by
  rw [show (reg0 m).pre c = iprop(StableHlo.held (c.tc : Thread nD τ) (Pipeline.arrRefs spec0) (V0 m c) ∗ emp ∗ StableHlo.held (c.tc : Thread nD τ) (Pipeline.ucRefs τ sig \ Pipeline.arrRefs spec0) (V0 m c) ∗ ∃ Wd, owes (c : Thread nD τ) (0 : CellTallies nD τ sig Unit) Wd) from rfl]
  unfold state
  rw [state_split0]
  iintro ⟨⟨Ha, Hr⟩, Ho⟩
  isplitl [Ha]; · iexact Ha
  isplitr; · iempintro
  isplitl [Hr] <;> iassumption

set_option backward.isDefEq.respectTransparency.types false in
theorem reg0_post (c : Dev nD) : (reg0 m).post c ⊢ state (V1 m) c := by
  rw [show (reg0 m).post c = iprop(StableHlo.held (c.tc : Thread nD τ) (Pipeline.arrRefs spec0) (V1 m c) ∗ emp ∗ StableHlo.held (c.tc : Thread nD τ) (Pipeline.ucRefs τ sig \ Pipeline.arrRefs spec0) (V0 m c) ∗ ∃ Wd, owes (c : Thread nD τ) (0 : CellTallies nD τ sig Unit) Wd) from rfl]
  unfold state
  rw [state_split0, StableHlo.held_congr (V := V1 m c) (V' := V0 m c) (S := Pipeline.ucRefs τ sig \ Pipeline.arrRefs spec0) (c.tc : Thread nD τ)
    (fun b hb => V1_ne m c b (notin0 b hb).1 (notin0 b hb).2)]
  iintro ⟨Ha, -, Hr, Ho⟩
  isplitr [Ho]; · isplitl [Ha] <;> iassumption
  iexact Ho

set_option backward.isDefEq.respectTransparency.types false in
theorem reg1_pre (c : Dev nD) : state (V3 m) c ⊢ (reg1 m).pre c := by
  rw [show (reg1 m).pre c = iprop(StableHlo.held (c.tc : Thread nD τ) (Pipeline.arrRefs spec1) (V3 m c) ∗ emp ∗ StableHlo.held (c.tc : Thread nD τ) (Pipeline.ucRefs τ sig \ Pipeline.arrRefs spec1) (V3 m c) ∗ ∃ Wd, owes (c : Thread nD τ) (0 : CellTallies nD τ sig Unit) Wd) from rfl]
  unfold state
  rw [state_split1]
  iintro ⟨⟨Ha, Hr⟩, Ho⟩
  isplitl [Ha]; · iexact Ha
  isplitr; · iempintro
  isplitl [Hr] <;> iassumption

set_option backward.isDefEq.respectTransparency.types false in
theorem reg1_post (c : Dev nD) : (reg1 m).post c ⊢ state (V4 m) c := by
  rw [show (reg1 m).post c = iprop(StableHlo.held (c.tc : Thread nD τ) (Pipeline.arrRefs spec1) (V4 m c) ∗ emp ∗ StableHlo.held (c.tc : Thread nD τ) (Pipeline.ucRefs τ sig \ Pipeline.arrRefs spec1) (V3 m c) ∗ ∃ Wd, owes (c : Thread nD τ) (0 : CellTallies nD τ sig Unit) Wd) from rfl]
  unfold state
  rw [state_split1, StableHlo.held_congr (V := V4 m c) (V' := V3 m c) (S := Pipeline.ucRefs τ sig \ Pipeline.arrRefs spec1) (c.tc : Thread nD τ)
    (fun b hb => V4_ne m c b (notin1 b hb))]
  iintro ⟨Ha, -, Hr, Ho⟩
  isplitr [Ho]; · isplitl [Ha] <;> iassumption
  iexact Ho

/-- A stretch of operations as a segment over every unscoped buffer. -/
abbrev opsSeg (ops : List (HloOp τ sig (Elt F))) (hs : ops.Forall fun op => op.bufs ⊆ StableHlo.tcRefs τ sig) (hf : ops.Forall fun op => op.fresh = ∅)
    (V : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) ops (fun op h => Pipeline.sub_ucRefs op (List.forall_iff_forall_mem.mp hs op h)) (fun op h => List.forall_iff_forall_mem.mp hf op h)
    V (fun c => iprop(∃ Wd, owes (c : Thread nD τ) (0 : CellTallies nD τ sig Unit) Wd))

/-- The element is `word`. -/
theorem word_eq (c : Dev nD) (w : BitVec 32) (hw : word m c = w) {β : Type} (k : BitVec 32 → Prog (TpuEff nD τ sig (Elt F) (Pipeline.Sig Λ₀ (Fin 2) fun p => (pcfgs (F := F) p).Adm) .tc) β) :
    (HostLoop.elt main_v4 rfl ((wordOp (F := F)).fn fun b => V2 m c b.1) >>= k) = k w := by
  subst hw; rfl

set_option backward.isDefEq.respectTransparency.types false in
/-- Reading the element, known to be `w`. -/
def readSeg (w : BitVec 32) : Pipeline.HostSeg (Name := ℕ) (U := UR sig nD τ) (pcfgs (F := F)) defs₀ Variants.none L lv where
  prog := (hlo rfl wordOp (HostLoop.elt main_v4)) >>= fun x => .op (.assume (x = w) inferInstance) fun _ => .ret ⟨⟩
  pre c := iprop(⌜word m c = w⌝ ∗ state (V2 m) c)
  post c := state (V3 m) c
  run c {β} k K := by
    unfold state
    iintro ⟨Hk, Hb, ⟨%hw, Hh, Ho⟩, -⟩
    rw [bind_assoc, wp_bind]
    iapply (StableHlo.wp_hlo_within (Variants.lift Variants.none) (c.tc : Thread nD τ) none Set.univ (op := wordOp (F := F)) (S := Pipeline.ucRefs τ sig) (V := V2 m c)
      (Pipeline.sub_ucRefs _ (StableHlo.unary_bufs_sub ..)) rfl) $$ [Hb Hh]
    · isplitl [Hb] <;> iassumption
    iintro ⟨Hb, Hh⟩
    rw [← wp_bind, word_eq m c w hw]
    rw [show ((Prog.op (.assume (w = w) inferInstance) fun _ => .ret ⟨⟩ : Prog (TpuEff nD τ sig (Elt F) (Pipeline.Sig Λ₀ (Fin 2) fun p => (pcfgs (F := F) p).Adm) .tc) PUnit) >>= k)
      = Prog.op (.assume (w = w) inferInstance) fun _ => k ⟨⟩ from rfl]
    iapply (wp_assume _ _ _ _ rfl)
    iapply Hk
    isplitl [Hb]; · iexact Hb
    isplitl [Hh]; · iexact Hh
    iexact Ho

/-- @main's stretches, the branch the read element names. -/
def segs (c : Dev nD) : List (Pipeline.Seg (pcfgs (F := F)) adm (pdats m) () defs₀ Variants.none L lv) :=
  if slow m c then [.region (reg0 m), .host (opsSeg hostOps1 hostOps1_sub hostOps1_fresh (V1 m)), .host (readSeg m (word m c)),
    .region (reg1 m), .host (opsSeg slowOps slowOps_sub slowOps_fresh (V4 m))]
  else [.region (reg0 m), .host (opsSeg hostOps1 hostOps1_sub hostOps1_fresh (V1 m)), .host (readSeg m (word m c)),
    .host (opsSeg fastOps fastOps_sub fastOps_fresh (V3 m))]

/-- @main up to the element read. -/
def head : Prog (TpuEff nD τ sig (Elt F) (Pipeline.Sig Λ₀ (Fin 2) fun p => (pcfgs (F := F) p).Adm) .tc) (BitVec 32) :=
  .op (.customCall (Pipeline.entry 0) ()) fun _ => StableHlo.seq hostOps1 >>= fun _ => hlo rfl wordOp (HostLoop.elt main_v4)
/-- Its slow branch. -/
def slowProg : Prog (TpuEff nD τ sig (Elt F) (Pipeline.Sig Λ₀ (Fin 2) fun p => (pcfgs (F := F) p).Adm) .tc) PUnit :=
  .op (.customCall (Pipeline.entry 1) ()) fun _ => StableHlo.seq slowOps
/-- Its fast branch. -/
def fastProg : Prog (TpuEff nD τ sig (Elt F) (Pipeline.Sig Λ₀ (Fin 2) fun p => (pcfgs (F := F) p).Adm) .tc) PUnit :=
  StableHlo.seq fastOps

theorem segs_slow (c : Dev nD) (h : slow m c) : Pipeline.Seg.run (segs m c)
    = head >>= fun x => .op (.assume (x = word m c) inferInstance) fun _ => slowProg := by
  unfold segs; rw [if_pos h]; unfold head slowProg; rfl
theorem segs_fast (c : Dev nD) (h : ¬ slow m c) : Pipeline.Seg.run (segs m c)
    = head >>= fun x => .op (.assume (x = word m c) inferInstance) fun _ => fastProg := by
  unfold segs; rw [if_neg h]; unfold head fastProg; rfl
theorem main_split (c : Dev nD) : main (F := F) c = head >>= fun x => if HostLoop.branch x 1 = 0 then slowProg else fastProg := by
  rw [show main (F := F) c = (head >>= fun x => (HostLoop.case 2 x fun
      | 0 => slowProg
      | 1 => fastProg
      | ⟨_ + 2, h⟩ => absurd h (Nat.not_lt.2 (Nat.le_add_left _ _))) >>= fun _ => pure ⟨⟩) from rfl]
  congr 1
  funext x
  rw [show ∀ B, HostLoop.case 2 x B = B (HostLoop.branch x 1) from fun _ => rfl]
  generalize HostLoop.branch x 1 = i
  match i with
  | 0 => rfl
  | 1 => rfl

set_option backward.isDefEq.respectTransparency.types false in
theorem segs_main (c : Dev nD) (Q : PUnit → sProp 𝕄) :
    wp frame (wpE (Pipeline.defs pcfgs defs₀) (Variants.lift Variants.none) (c.tc : Thread nD τ) none) Set.univ (Pipeline.Seg.run (segs m c)) Q
      ⊢ wp frame (wpE (Pipeline.defs pcfgs defs₀) (Variants.lift Variants.none) (c.tc : Thread nD τ) none) Set.univ (main (F := F) c) Q := by
  rw [main_split]
  by_cases h : slow m c
  · rw [segs_slow m c h, wp_bind, wp_bind]
    refine wp_mono _ _ _ fun x => ?_
    rw [wp_assume_eq, ← fupd_wp_eq (p := if HostLoop.branch x 1 = 0 then slowProg else fastProg)]
    refine fupd_mono ?_
    iintro ⟨%hx, H⟩
    rw [if_pos (by rw [hx.down]; exact h)]
    iexact H
  · rw [segs_fast m c h, wp_bind, wp_bind]
    refine wp_mono _ _ _ fun x => ?_
    rw [wp_assume_eq, ← fupd_wp_eq (p := if HostLoop.branch x 1 = 0 then slowProg else fastProg)]
    refine fupd_mono ?_
    iintro ⟨%hx, H⟩
    rw [if_neg (by rw [hx.down]; exact h)]
    iexact H

theorem chains (c : Dev nD) : Pipeline.Seg.ChainsAt c (state (V0 m)) (segs m c) fun c =>
    iprop(StableHlo.held (c.tc : Thread nD τ) (Pipeline.ucRefs τ sig) (Vend m c) ∗ ∃ Wd, owes (c.tc : Thread nD τ) (0 : CellTallies nD τ sig Unit) Wd) := by
  unfold segs
  have hr : state (V2 m) c ⊢ (readSeg m (word m c)).pre c := by
    show _ ⊢ iprop(⌜word m c = word m c⌝ ∗ state (V2 m) c)
    iintro H
    isplitr; · ipureintro; rfl
    iexact H
  by_cases h : slow m c
  · rw [if_pos h]
    refine ⟨reg0_pre m c, reg0_post m c, hr, reg1_pre m c, reg1_post m c, ?_⟩
    show state (V5 m) c ⊢ iprop(StableHlo.held (c.tc : Thread nD τ) (Pipeline.ucRefs τ sig) (Vend m c) ∗ ∃ Wd, owes (c.tc : Thread nD τ) (0 : CellTallies nD τ sig Unit) Wd)
    rw [show Vend m c = V5 m c from if_pos h]
    exact Entails.rfl
  · rw [if_neg h]
    refine ⟨reg0_pre m c, reg0_post m c, hr, Entails.rfl, ?_⟩
    show state (V6 m) c ⊢ iprop(StableHlo.held (c.tc : Thread nD τ) (Pipeline.ucRefs τ sig) (Vend m c) ∗ ∃ Wd, owes (c.tc : Thread nD τ) (0 : CellTallies nD τ sig Unit) Wd)
    rw [show Vend m c = V6 m c from if_neg h]
    exact Entails.rfl

/-- A buffer no operation of the program writes ends as it was launched. -/
theorem Vend_arg (c : Dev nD) (b : DevRef τ sig)
    (ha : (hostOps1 : List (HloOp τ sig (Elt F))).Forall fun op => b ∉ op.writes) (hw : b ∉ (wordOp (F := F)).writes)
    (hs : (slowOps : List (HloOp τ sig (Elt F))).Forall fun op => b ∉ op.writes)
    (hf : (fastOps : List (HloOp τ sig (Elt F))).Forall fun op => b ∉ op.writes)
    (h0 : b ≠ Proc.devRef .tc main_v0_0) (h1 : b ≠ Proc.devRef .tc main_v0_1) (h2 : b ≠ Proc.devRef .tc main_case0b0_v6) : Vend m c b = m (c, b) := by
  have e2 : V2 m c b = m (c, b) := (StableHlo.after_of_forall_not_mem _ _ (List.forall_iff_forall_mem.mp ha)).trans (V1_ne m c b h0 h1)
  have e3 : V3 m c b = m (c, b) := ((wordOp (F := F)).result_of_not_mem _ hw).trans e2
  have e4 : V4 m c b = m (c, b) := (V4_ne m c b h2).trans e3
  unfold Vend
  split
  · exact (StableHlo.after_of_forall_not_mem _ _ (List.forall_iff_forall_mem.mp hs)).trans e4
  · exact (StableHlo.after_of_forall_not_mem _ _ (List.forall_iff_forall_mem.mp hf)).trans e3

theorem Vend_arg0 (c : Dev nD) : Vend m c (Proc.devRef .tc main_arg0) = m ((c.tc : Thread nD τ).loc main_arg0) := by
  refine Vend_arg m c _ ?_ (Finset.notMem_singleton.mpr (by decide)) ?_ ?_ (by decide) (by decide) (by decide) <;> repeat' apply And.intro
  all_goals exact Finset.notMem_singleton.mpr (by decide)
theorem Vend_arg1 (c : Dev nD) : Vend m c (Proc.devRef .tc main_arg1) = m ((c.tc : Thread nD τ).loc main_arg1) := by
  refine Vend_arg m c _ ?_ (Finset.notMem_singleton.mpr (by decide)) ?_ ?_ (by decide) (by decide) (by decide) <;> repeat' apply And.intro
  all_goals exact Finset.notMem_singleton.mpr (by decide)

/-- One buffer of a thread state, read against the final memory. -/
theorem read_one (c : Dev nD) (b : DevRef τ sig) (hb : b ∈ Pipeline.ucRefs τ sig) (V : Valuation τ sig (Elt F)) (s' : Phys nD τ sig (Elt F)) :
    iprop(StableHlo.held (c.tc : Thread nD τ) (Pipeline.ucRefs τ sig) V ∗ SI s')
      ⊢ (iprop(⌜s'.mem.mem (c, b) = V b⌝ ∗ StableHlo.held (c.tc : Thread nD τ) (Pipeline.ucRefs τ sig) V ∗ SI s') : sProp 𝕄) := by
  rw [StableHlo.held_sub_split _ (Finset.singleton_subset_iff.mpr hb) V]
  unfold StableHlo.held
  rw [bigSep_singleton]
  iintro ⟨⟨Hx, Hr⟩, HSI⟩
  icombine HSI Hx gives %hx
  isplitr; · ipureintro; exact Buf.eq_of_forall_mem_univ hx
  isplitr [HSI]; · isplitl [Hx] <;> iassumption
  iexact HSI

def u₀ : UR sig nD τ := initOf (Pipeline.cells (Pipeline.pin (pcfgs (F := F)) adm) cellOf_inj) (Pipeline.launchToks (Pipeline.pin (pcfgs (F := F)) adm) cellOf_inj)
theorem own_u₀ : (ownU (u₀ (F := F)) : sProp 𝕄) = BI.own (EP (F := F) (initOf (Pipeline.cells (Pipeline.pin (pcfgs (F := F)) adm) cellOf_inj) (Pipeline.launchToks (Pipeline.pin (pcfgs (F := F)) adm) cellOf_inj))) := rfl

set_option backward.isDefEq.respectTransparency.types false in
/-- THE RUN: every fair execution ends with the result buffer at `Vend`, the arguments as they were and every counter at zero. -/
theorem run : θ_run defs (onTc (τ := τ) (main (F := F))) ⟨m, fun _ => 0, ρ⟩ (fun r => (∀ c : Dev nD,
      r.2.mem ((c.tc : Thread nD τ).loc main_v5) = Vend m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_regions_kit_dev_sems (pcfgs (F := F)) adm (pdats m) () cellOf_inj EP defs₀ Variants.none L lv m ρ main (segs m) (segs_main m)
    (fun c => by
      unfold segs
      split <;> simp only [Pipeline.Seg.pipes_host, Pipeline.Seg.pipes_region, Pipeline.Seg.pipes_nil] <;> decide)
    (fun _ => 0) (fun g hg => if_neg hg) (fun _ => iprop(emp)) (u₀ (F := F))
    (by
      rw [own_u₀]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (state (V0 m)) (fun c => StableHlo.held (c.tc : Thread nD τ) (Pipeline.ucRefs τ sig) (Vend m c)) (chains m)
    (by
      refine Pipeline.initEach L lv fun c => ?_
      rw [show unscopedBufs c (fun b => m ((c.tc : Thread nD τ).loc b)) = StableHlo.held (c.tc : Thread nD τ) (Pipeline.ucRefs τ sig) (V0 m c) from Pipeline.unscopedBufs_held c (V0 m c)]
      unfold state
      iintro ⟨⟨Hh, -, HO, -, -, -⟩, -⟩
      imodintro
      isplitl [Hh]; · iexact Hh
      iexists ∅; iexact HO)
    (fun c s => s.mem ((c.tc : Thread nD τ).loc main_v5) = Vend m c (Proc.devRef .tc main_v5)
      ∧ s.mem ((c.tc : Thread nD τ).loc main_arg0) = Vend m c (Proc.devRef .tc main_arg0)
      ∧ s.mem ((c.tc : Thread nD τ).loc main_arg1) = Vend m c (Proc.devRef .tc main_arg1))
    (fun c s' => by
      iintro H
      ihave H := (read_one c (Proc.devRef .tc main_v5) (Pipeline.devRef_mem_ucRefs rfl) (Vend m c) s') $$ H
      icases H with ⟨%h5, H⟩
      ihave H := (read_one c (Proc.devRef .tc main_arg0) (Pipeline.devRef_mem_ucRefs rfl) (Vend m c) s') $$ H
      icases H with ⟨%h0, H⟩
      ihave H := (read_one c (Proc.devRef .tc main_arg1) (Pipeline.devRef_mem_ucRefs rfl) (Vend m c) s') $$ H
      icases H with ⟨%h1, -, HSI⟩
      imodintro
      isplitr; · ipureintro; exact ⟨h5, h0, h1⟩
      iexact HSI)
    (fun s h hs => ⟨fun c => ⟨(h c).1, (h c).2.1.trans (Vend_arg0 m c),
        (h c).2.2.trans (Vend_arg1 m c)⟩,
      sem_eq_zero_of_scoped (by decide) hs⟩)

end Cert.KernelIdeal.Hand
-- ==== Proof.Pixel.lean ====
/- One pixel over the extended reals: its score, its probability and its log probability, and how the three compare. -/
module

public import Idealize.ShloMosaic.PureOps.Ideal.Laws

@[expose] public section

noncomputable section

namespace Cert.Pixel

open Idealize.ShloMosaic

/-- The score of a pixel: the logit of its class, less the logarithm of the sum of the exponentials. -/
def score (x : Fin 19 → EReal) (t : Fin 19) : EReal := x t - Ideal.log (∑ j, Ideal.exp (x j))

/-- The largest logit of a pixel. -/
def top (x : Fin 19 → EReal) : EReal := Finset.univ.sup x

/-- The probability of the pixel's class, computed from the logits less the largest. -/
def prob (x : Fin 19 → EReal) (t : Fin 19) : EReal := Ideal.div (Ideal.exp (x t - top x)) (∑ j, Ideal.exp (x j - top x))

/-- The log probability of the pixel's class, computed from the logits less the largest. -/
def logp (x : Fin 19 → EReal) (t : Fin 19) : EReal := (x t - top x) - Ideal.log (∑ j, Ideal.exp (x j - top x))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential as a real number, zero at minus infinity. -/
def e : EReal → ℝ
  | (r : ℝ) => Real.exp r
  | _ => 0

theorem e_nonneg (x : EReal) : 0 ≤ e x := by
  induction x using EReal.rec with
  | bot => exact le_rfl
  | coe r => exact (Real.exp_pos r).le
  | top => exact le_rfl

theorem exp_eq (x : EReal) (hx : x ≠ ⊤) : Ideal.exp x = (e x : EReal) := by
  induction x using EReal.rec with
  | bot => rfl
  | coe r => rfl
  | top => exact absurd rfl hx

theorem exp_sub_eq (x : EReal) (hx : x ≠ ⊤) (m : ℝ) : Ideal.exp (x - (m : EReal)) = ((e x * Real.exp (-m) : ℝ) : EReal) := by
  induction x using EReal.rec with
  | bot => rw [EReal.bot_sub, show e ⊥ = 0 from rfl]; simp
  | coe r =>
    rw [← EReal.coe_sub, Ideal.exp_coe, show e (r : EReal) = Real.exp r from rfl, ← Real.exp_add, sub_eq_add_neg]
  | top => exact absurd rfl hx

theorem exp_nonneg (x : EReal) : 0 ≤ Ideal.exp x := by
  induction x using EReal.rec with
  | bot => exact le_rfl
  | coe r => exact EReal.coe_nonneg.mpr (Real.exp_pos r).le
  | top => exact le_top

/-- Either the largest logit is infinite, and everything is minus infinity, or it is a real number. -/
theorem cases (x : Fin 19 → EReal) (t : Fin 19) :
    (score x t = ⊥ ∧ prob x t = ⊥ ∧ logp x t = ⊥) ∨
      ∃ Z : ℝ, 0 < Z ∧ x t ≠ ⊤ ∧ score x t = x t - ((Real.log Z : ℝ) : EReal) ∧ prob x t = ((e (x t) / Z : ℝ) : EReal) ∧ logp x t = score x t := by
  have hle : ∀ j, x j ≤ top x := fun j => Finset.le_sup (Finset.mem_univ j)
  obtain ⟨j₀, -, hj₀⟩ := Finset.exists_mem_eq_sup Finset.univ ⟨t, Finset.mem_univ t⟩ x
  have hj₀ : top x = x j₀ := hj₀
  have hinf : (∀ j, x j - top x = ⊥) → prob x t = ⊥ ∧ logp x t = ⊥ := fun h => by
    have hs : ∑ j, Ideal.exp (x j - top x) = 0 := Finset.sum_eq_zero fun j _ => by rw [h j]; rfl
    unfold prob logp
    rw [hs, h t]
    exact ⟨by simp [Ideal.div], by rw [EReal.bot_sub]⟩
  generalize hM : top x = M at *
  induction M using EReal.rec with
  | bot =>
    left
    have hx : ∀ j, x j = ⊥ := fun j => le_bot_iff.mp (hle j)
    refine ⟨?_, hinf fun j => by rw [hx j, EReal.bot_sub]⟩
    rw [score, hx t, EReal.bot_sub]
  | top =>
    left
    refine ⟨?_, hinf fun j => EReal.sub_top _⟩
    have hs : ∑ j, Ideal.exp (x j) = ⊤ := by
      refine top_le_iff.mp (le_trans ?_ (Finset.single_le_sum (fun j _ => exp_nonneg (x j)) (Finset.mem_univ j₀)))
      rw [← hj₀]; exact le_rfl
    rw [score, hs, Ideal.log_top, EReal.sub_top]
  | coe m =>
    right
    have hx : ∀ j, x j ≠ ⊤ := fun j => ne_top_of_le_ne_top (EReal.coe_ne_top m) (hle j)
    have hZ : 0 < ∑ j, e (x j) := by
      refine lt_of_lt_of_le (Real.exp_pos m) ((le_of_eq ?_).trans (Finset.single_le_sum (fun j _ => e_nonneg (x j)) (Finset.mem_univ j₀)))
      rw [← hj₀]; rfl
    have hs : ∑ j, Ideal.exp (x j) = ((∑ j, e (x j) : ℝ) : EReal) := by
      rw [coe_sum]; exact Finset.sum_congr rfl fun j _ => exp_eq _ (hx j)
    have hs' : ∑ j, Ideal.exp (x j - (m : EReal)) = (((∑ j, e (x j)) * Real.exp (-m) : ℝ) : EReal) := by
      rw [Finset.sum_mul, coe_sum]; exact Finset.sum_congr rfl fun j _ => exp_sub_eq _ (hx j) m
    generalize (∑ j, e (x j)) = Z at hZ hs hs'
    have hlog : Ideal.log ((Z : ℝ) : EReal) = ((Real.log Z : ℝ) : EReal) := by rw [Ideal.log_coe, if_neg (not_le.mpr hZ)]
    have hpos : 0 < Z * Real.exp (-m) := mul_pos hZ (Real.exp_pos _)
    have hlog' : Ideal.log ((Z * Real.exp (-m) : ℝ) : EReal) = ((Real.log Z - m : ℝ) : EReal) := by
      rw [Ideal.log_coe, if_neg (not_le.mpr hpos), Real.log_mul hZ.ne' (Real.exp_pos _).ne', Real.log_exp, sub_eq_add_neg]
    refine ⟨Z, hZ, hx t, by rw [score, hs, hlog], ?_, ?_⟩
    · rw [prob, hM, hs', exp_sub_eq _ (hx t), Ideal.div_coe hpos.ne', ← EReal.coe_mul]
      congr 1
      have := Real.exp_pos (-m)
      field_simp
    · rw [logp, score, hM, hs', hs, hlog, hlog']
      have ht := hx t
      generalize x t = y at ht
      induction y using EReal.rec with
      | bot => rw [EReal.bot_sub, EReal.bot_sub, EReal.bot_sub]
      | coe r => rw [← EReal.coe_sub, ← EReal.coe_sub, ← EReal.coe_sub]; congr 1; ring
      | top => exact absurd rfl ht

theorem logp_eq (x : Fin 19 → EReal) (t : Fin 19) : logp x t = score x t := by
  rcases cases x t with ⟨h1, _, h3⟩ | ⟨_, _, _, _, _, h⟩
  · rw [h1, h3]
  · exact h

theorem score_ne_top (x : Fin 19 → EReal) (t : Fin 19) : score x t ≠ ⊤ := by
  rcases cases x t with ⟨h1, _, _⟩ | ⟨Z, _, hx, h, _, _⟩
  · rw [h1]; exact bot_ne_top
  · rw [h]
    generalize x t = y at hx
    induction y using EReal.rec with
    | bot => rw [EReal.bot_sub]; exact bot_ne_top
    | coe r => rw [← EReal.coe_sub]; exact EReal.coe_ne_top _
    | top => exact absurd rfl hx

theorem prob_ne_top (x : Fin 19 → EReal) (t : Fin 19) : prob x t ≠ ⊤ := by
  rcases cases x t with ⟨_, h1, _⟩ | ⟨Z, _, _, _, h, _⟩
  · rw [h1]; exact bot_ne_top
  · rw [h]; exact EReal.coe_ne_top _

/-- The probability is at most `exp v` exactly when the score is at most `v`. -/
theorem prob_le (x : Fin 19 → EReal) (t : Fin 19) (v : ℝ) : prob x t ≤ ((Real.exp v : ℝ) : EReal) ↔ score x t ≤ (v : EReal) := by
  rcases cases x t with ⟨h1, h2, _⟩ | ⟨Z, hZ, hx, h, hp, _⟩
  · rw [h1, h2]; exact ⟨fun _ => bot_le, fun _ => bot_le⟩
  · rw [h, hp, EReal.coe_le_coe_iff]
    generalize x t = y at hx
    induction y using EReal.rec with
    | bot =>
      rw [EReal.bot_sub, show e ⊥ = 0 from rfl, zero_div]
      exact ⟨fun _ => bot_le, fun _ => (Real.exp_pos v).le⟩
    | coe r =>
      rw [← EReal.coe_sub, EReal.coe_le_coe_iff, show e (r : EReal) = Real.exp r from rfl, ← Real.exp_log hZ, ← Real.exp_sub, Real.exp_le_exp, Real.log_exp]
    | top => exact absurd rfl hx

/-- The chain of nineteen additions is the sum. -/
theorem sum19 (f : Fin 19 → EReal) :
    0 + f 0 + f 1 + f 2 + f 3 + f 4 + f 5 + f 6 + f 7 + f 8 + f 9 + f 10 + f 11 + f 12 + f 13 + f 14 + f 15 + f 16 + f 17 + f 18 = ∑ j, f j := by
  simp only [Fin.sum_univ_succ, Fin.sum_univ_zero, zero_add, add_zero]
  simp only [← add_assoc]
  rfl

/-- The class a word names, where it names one of the nineteen. -/
def IsClass (w : BitVec 32) (t : Fin 19) : Prop := w = BitVec.ofNat 32 t.val

/-- The chain of nineteen selects picks the logit of the class. -/
theorem pick19 (w : BitVec 32) (t : Fin 19) (hw : IsClass w t) (x : Fin 19 → EReal) (z : EReal) (s : BitVec 1 → EReal → EReal → EReal)
    (h0 : ∀ a b, s 0#1 a b = b) (h1 : ∀ a b, s 1#1 a b = a) (c : BitVec 32 → BitVec 32 → BitVec 1) (hc : ∀ a b, c a b = if a = b then 1#1 else 0#1) :
    s (c w 18#32) (x 18) (s (c w 17#32) (x 17) (s (c w 16#32) (x 16) (s (c w 15#32) (x 15) (s (c w 14#32) (x 14) (s (c w 13#32) (x 13) (s (c w 12#32) (x 12)
      (s (c w 11#32) (x 11) (s (c w 10#32) (x 10) (s (c w 9#32) (x 9) (s (c w 8#32) (x 8) (s (c w 7#32) (x 7) (s (c w 6#32) (x 6) (s (c w 5#32) (x 5)
      (s (c w 4#32) (x 4) (s (c w 3#32) (x 3) (s (c w 2#32) (x 2) (s (c w 1#32) (x 1) (s (c w 0#32) (x 0) z)))))))))))))))))) = x t := by
  subst hw
  simp only [hc]
  fin_cases t <;> simp [h0, h1]

/-- One where a score is at most a threshold, zero elsewhere. -/
def ind (v s : EReal) : EReal := if s ≤ v then 1 else 0

/-- The score where it is at most a threshold, zero elsewhere. -/
def sel (v s : EReal) : EReal := if s ≤ v then s else 0

end Cert.Pixel
-- ==== Proof.KernelPixel.lean ====
/- The two bodies of the kernel read at one pixel: both compute the pixel's score. -/
module

public import proofs.«01_k».proof.Proof.KernelIdealCalls
public import proofs.«01_k».proof.Proof.Pixel
public import Idealize.ShloMosaic.Lib.ValueIdx
public import Idealize.ShloMosaic.Lib.Pipeline.Value

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

theorem zero_bits : Ideal.ofBits .f32 0x00000000#32 = 0 := by simp [Ideal.ofBits, Ideal.ieee]

theorem exp_at {s : Shape} (x : FVec Ideal s .f32) (i : s.Idx) : exp x i = Ideal.exp (x i) := rfl
theorem log_at {s : Shape} (x : FVec Ideal s .f32) (i : s.Idx) : log x i = Ideal.log (x i) := rfl
theorem cmpi_eq_at {s : Shape} (a b : IVec s 32) (i : s.Idx) : cmpi .eq a b i = Scalar.cmpi .eq (a i) (b i) := rfl
theorem scalar_eq (a b : BitVec 32) : Scalar.cmpi .eq a b = if a = b then 1#1 else 0#1 := by
  by_cases h : a = b
  · simp [Scalar.cmpi, IntOp.cmpi, h]
  · rw [if_neg h]; show BitVec.ofBool (a == b) = 0#1; rw [beq_eq_false_iff_ne.mpr h]; rfl

/-! ## The counting body -/

/-- Row `r` of the sixteen that trip `k` reads, in the block. -/
def row (k : Fin k0_t1_loop.trips) (r : Fin 16) : Fin 256 := ⟨16 * k.val + r.val, by
  have h : k.val < 16 := k.isLt
  omega⟩

/-- Channel `c` of the rows of trip `k`, as a slab reads it. -/
theorem slab_at (x1 : Vec Ideal S1x19x256x512 .f32) (k : Fin k0_t1_loop.trips) (c : Fin 19) (off : Fin 4 → ℕ)
    (h : ∀ a, off a + S1x1x16x512.size a ≤ S1x19x256x512.size a) (hoff : ∀ a, off a = (![0, c.val, 16 * k.val, 0] : Fin 4 → ℕ) a) (j : S16x512.Idx) :
    shapeCast S16x512 (slab x1 off h) shapeCasts_S1x1x16x512_S16x512 j = x1 (ix4 (0 : Fin 1) c (row k (j 0)) (j 1)) := by
  rw [shapeCast_apply _ shapeCasts_S1x1x16x512_S16x512 j (ix4 (0 : Fin 1) (0 : Fin 1) (j 0) (j 1))
    (by rw [Shape.rowMajor_val_four, Shape.rowMajor_val_two]; show ((0 * 1 + 0) * 16 + (j 0).val) * 512 + (j 1).val = (j 0).val * 512 + (j 1).val; omega)]
  show x1 _ = x1 _
  congr 1
  funext a; apply Fin.ext
  match a with
  | ⟨0, _⟩ => show off 0 + 1 * 0 = 0; rw [hoff]; rfl
  | ⟨1, _⟩ => show off 1 + 1 * 0 = c.val; rw [hoff]; rfl
  | ⟨2, _⟩ => show off 2 + 1 * (j 0).val = 16 * k.val + (j 0).val; rw [hoff, Nat.one_mul]; rfl
  | ⟨3, _⟩ => show off 3 + 1 * (j 1).val = (j 1).val; rw [hoff, Nat.one_mul]; exact Nat.zero_add _

/-- The class of a pixel of trip `k`. -/
theorem rows_at (x2 : Vec Ideal S1x256x512 .i32) (k : Fin k0_t1_loop.trips) (j : S16x512.Idx) :
    shapeCast S16x512 (rows (F := Ideal) x2 k) shapeCasts_S1x16x512_S16x512 j = x2 (ix3 (0 : Fin 1) (row k (j 0)) (j 1)) := by
  have hoff : ∀ a, k0_off1 k a = (![0, 16 * k.val, 0] : Fin 3 → ℕ) a := (by decide +kernel : ∀ (k : Fin k0_t1_loop.trips) a, k0_off1 k a = (![0, 16 * k.val, 0] : Fin 3 → ℕ) a) k
  rw [shapeCast_apply _ shapeCasts_S1x16x512_S16x512 j (ix3 (0 : Fin 1) (j 0) (j 1))
    (by rw [Shape.rowMajor_val_three, Shape.rowMajor_val_two]; show (0 * 16 + (j 0).val) * 512 + (j 1).val = (j 0).val * 512 + (j 1).val; omega)]
  show x2 _ = x2 _
  congr 1
  funext a; apply Fin.ext
  match a with
  | ⟨0, _⟩ => show k0_off1 k 0 + 1 * 0 = 0; rw [hoff]; rfl
  | ⟨1, _⟩ => show k0_off1 k 1 + 1 * (j 0).val = 16 * k.val + (j 0).val; rw [hoff, Nat.one_mul]; rfl
  | ⟨2, _⟩ => show k0_off1 k 2 + 1 * (j 1).val = (j 1).val; rw [hoff, Nat.one_mul]; exact Nat.zero_add _

/-- The two vectors a trip computes, at one pixel: the sum of the exponentials, and the logit of the class. -/
theorem trip_at (x1 : Vec Ideal S1x19x256x512 .f32) (x2 : Vec Ideal S1x256x512 .i32) (k : Fin k0_t1_loop.trips) (j : S16x512.Idx) (t : Fin 19)
    (ht : Pixel.IsClass (x2 (ix3 (0 : Fin 1) (row k (j 0)) (j 1))) t) :
    expSum x1 k j = ∑ c : Fin 19, Ideal.exp (x1 (ix4 (0 : Fin 1) c (row k (j 0)) (j 1))) ∧ picked x1 x2 k j = x1 (ix4 (0 : Fin 1) t (row k (j 0)) (j 1)) := by
  unfold expSum picked
  simp only [k0_pay34, k0_pay27, k0_pay20, k0_pay13, k0_pay35, k0_pay28, k0_pay21, k0_pay14, k0_pay8, k0_pay9, k0_pay10, k0_pay11, k0_pay12, k0_pay15, k0_pay16,
    k0_pay17, k0_pay18, k0_pay19, k0_pay22, k0_pay23, k0_pay24, k0_pay25, k0_pay26, k0_pay29, k0_pay30, k0_pay31, k0_pay32, k0_pay33,
    addf_apply, exp_at, select_apply, cmpi_eq_at, broadcast,
    slab_at x1 k 0 (k0_off2 k) _ ((by decide +kernel : ∀ (k : Fin k0_t1_loop.trips) a, k0_off2 k a = (![0, 0, 16 * k.val, 0] : Fin 4 → ℕ) a) k),
    slab_at x1 k 1 (k0_off3 k) _ ((by decide +kernel : ∀ (k : Fin k0_t1_loop.trips) a, k0_off3 k a = (![0, 1, 16 * k.val, 0] : Fin 4 → ℕ) a) k),
    slab_at x1 k 2 (k0_off4 k) _ ((by decide +kernel : ∀ (k : Fin k0_t1_loop.trips) a, k0_off4 k a = (![0, 2, 16 * k.val, 0] : Fin 4 → ℕ) a) k),
    slab_at x1 k 3 (k0_off5 k) _ ((by decide +kernel : ∀ (k : Fin k0_t1_loop.trips) a, k0_off5 k a = (![0, 3, 16 * k.val, 0] : Fin 4 → ℕ) a) k),
    slab_at x1 k 4 (k0_off6 k) _ ((by decide +kernel : ∀ (k : Fin k0_t1_loop.trips) a, k0_off6 k a = (![0, 4, 16 * k.val, 0] : Fin 4 → ℕ) a) k),
    slab_at x1 k 5 (k0_off7 k) _ ((by decide +kernel : ∀ (k : Fin k0_t1_loop.trips) a, k0_off7 k a = (![0, 5, 16 * k.val, 0] : Fin 4 → ℕ) a) k),
    slab_at x1 k 6 (k0_off8 k) _ ((by decide +kernel : ∀ (k : Fin k0_t1_loop.trips) a, k0_off8 k a = (![0, 6, 16 * k.val, 0] : Fin 4 → ℕ) a) k),
    slab_at x1 k 7 (k0_off9 k) _ ((by decide +kernel : ∀ (k : Fin k0_t1_loop.trips) a, k0_off9 k a = (![0, 7, 16 * k.val, 0] : Fin 4 → ℕ) a) k),
    slab_at x1 k 8 (k0_off10 k) _ ((by decide +kernel : ∀ (k : Fin k0_t1_loop.trips) a, k0_off10 k a = (![0, 8, 16 * k.val, 0] : Fin 4 → ℕ) a) k),
    slab_at x1 k 9 (k0_off11 k) _ ((by decide +kernel : ∀ (k : Fin k0_t1_loop.trips) a, k0_off11 k a = (![0, 9, 16 * k.val, 0] : Fin 4 → ℕ) a) k),
    slab_at x1 k 10 (k0_off12 k) _ ((by decide +kernel : ∀ (k : Fin k0_t1_loop.trips) a, k0_off12 k a = (![0, 10, 16 * k.val, 0] : Fin 4 → ℕ) a) k),
    slab_at x1 k 11 (k0_off13 k) _ ((by decide +kernel : ∀ (k : Fin k0_t1_loop.trips) a, k0_off13 k a = (![0, 11, 16 * k.val, 0] : Fin 4 → ℕ) a) k),
    slab_at x1 k 12 (k0_off14 k) _ ((by decide +kernel : ∀ (k : Fin k0_t1_loop.trips) a, k0_off14 k a = (![0, 12, 16 * k.val, 0] : Fin 4 → ℕ) a) k),
    slab_at x1 k 13 (k0_off15 k) _ ((by decide +kernel : ∀ (k : Fin k0_t1_loop.trips) a, k0_off15 k a = (![0, 13, 16 * k.val, 0] : Fin 4 → ℕ) a) k),
    slab_at x1 k 14 (k0_off16 k) _ ((by decide +kernel : ∀ (k : Fin k0_t1_loop.trips) a, k0_off16 k a = (![0, 14, 16 * k.val, 0] : Fin 4 → ℕ) a) k),
    slab_at x1 k 15 (k0_off17 k) _ ((by decide +kernel : ∀ (k : Fin k0_t1_loop.trips) a, k0_off17 k a = (![0, 15, 16 * k.val, 0] : Fin 4 → ℕ) a) k),
    slab_at x1 k 16 (k0_off18 k) _ ((by decide +kernel : ∀ (k : Fin k0_t1_loop.trips) a, k0_off18 k a = (![0, 16, 16 * k.val, 0] : Fin 4 → ℕ) a) k),
    slab_at x1 k 17 (k0_off19 k) _ ((by decide +kernel : ∀ (k : Fin k0_t1_loop.trips) a, k0_off19 k a = (![0, 17, 16 * k.val, 0] : Fin 4 → ℕ) a) k),
    slab_at x1 k 18 (k0_off20 k) _ ((by decide +kernel : ∀ (k : Fin k0_t1_loop.trips) a, k0_off20 k a = (![0, 18, 16 * k.val, 0] : Fin 4 → ℕ) a) k)]
  constructor
  · rw [← Pixel.sum19 fun c => Ideal.exp (x1 (ix4 (0 : Fin 1) c (row k (j 0)) (j 1))), ← zero_bits]; rfl
  · exact Pixel.pick19 (shapeCast S16x512 (rows (F := Ideal) x2 k) shapeCasts_S1x16x512_S16x512 j) t ((rows_at x2 k j).trans ht) (fun c => x1 (ix4 (0 : Fin 1) c (row k (j 0)) (j 1))) _ Scalar.select (fun _ _ => rfl) (fun _ _ => rfl) (Scalar.cmpi .eq) scalar_eq

/-! ## The score body -/

/-- Channel `c` of the block, as the score body reads it. -/
theorem chan_at (x1 : Vec Ideal S1x19x256x512 .f32) (off : Fin 3 → ℕ) (c : Fin 19) (h : S19x256x512.Slices off S1x256x512) (hoff : off = ![c.val, 0, 0]) (j : S256x512.Idx) :
    shapeCast S256x512 (extractStridedSlice S1x256x512 off (shapeCast S19x256x512 x1 shapeCasts_S1x19x256x512_S19x256x512) h) shapeCasts_S1x256x512_S256x512 j
      = x1 (ix4 (0 : Fin 1) c (j 0) (j 1)) := by
  subst hoff
  rw [shapeCast_apply _ shapeCasts_S1x256x512_S256x512 j (ix3 (0 : Fin 1) (j 0) (j 1))
      (by rw [Shape.rowMajor_val_three, Shape.rowMajor_val_two]; show (0 * 256 + (j 0).val) * 512 + (j 1).val = (j 0).val * 512 + (j 1).val; omega),
    extractStridedSlice_apply _ _ h (ix3 (0 : Fin 1) (j 0) (j 1)) (ix3 c (j 0) (j 1)) (fun a => by
      match a with
      | ⟨0, _⟩ => rfl
      | ⟨1, _⟩ => exact (Nat.zero_add _).symm
      | ⟨2, _⟩ => exact (Nat.zero_add _).symm),
    shapeCast_apply _ shapeCasts_S1x19x256x512_S19x256x512 (ix3 c (j 0) (j 1)) (ix4 (0 : Fin 1) c (j 0) (j 1))
      (by rw [Shape.rowMajor_val_three, Shape.rowMajor_val_four]; show ((0 * 19 + c.val) * 256 + (j 0).val) * 512 + (j 1).val = (c.val * 256 + (j 0).val) * 512 + (j 1).val; omega)]

theorem class_at (x2 : Vec Ideal S1x256x512 .i32) (j : S256x512.Idx) :
    shapeCast S256x512 x2 shapeCasts_S1x256x512_S256x512 j = x2 (ix3 (0 : Fin 1) (j 0) (j 1)) :=
  shapeCast_apply _ shapeCasts_S1x256x512_S256x512 j (ix3 (0 : Fin 1) (j 0) (j 1))
    (by rw [Shape.rowMajor_val_three, Shape.rowMajor_val_two]; show (0 * 256 + (j 0).val) * 512 + (j 1).val = (j 0).val * 512 + (j 1).val; omega)

/-- The score body's block, at one pixel. -/
theorem score_at (x1 : Vec Ideal S1x19x256x512 .f32) (x2 : Vec Ideal S1x256x512 .i32) (j : S1x256x512.Idx) (t : Fin 19)
    (ht : Pixel.IsClass (x2 (ix3 (0 : Fin 1) (j 1) (j 2))) t) :
    score x1 x2 j = Pixel.score (fun c => x1 (ix4 (0 : Fin 1) c (j 1) (j 2))) t := by
  unfold score
  simp only [k1_pay1]
  rw [shapeCast_apply _ shapeCasts_S256x512_S1x256x512 j (ix2 (j 1) (j 2)) (by
    have h0 : (j 0).val = 0 := by have : (j 0).val < 1 := (j 0).isLt; omega
    rw [Shape.rowMajor_val_three, Shape.rowMajor_val_two]; show (j 1).val * 512 + (j 2).val = ((j 0).val * 256 + (j 1).val) * 512 + (j 2).val; omega)]
  simp only [k1_pay2, k1_pay3, k1_pay4, k1_pay5, k1_pay6, k1_pay7, k1_pay8, k1_pay9, k1_pay10, k1_pay11, k1_pay12, k1_pay13, k1_pay14, k1_pay15, k1_pay16, k1_pay17, k1_pay18,
    k1_pay19, k1_pay20, subf_apply, addf_apply, exp_at, log_at, select_apply, cmpi_eq_at, broadcast,
    chan_at x1 ![0, 0, 0] 0 _ rfl, chan_at x1 ![1, 0, 0] 1 _ rfl, chan_at x1 ![2, 0, 0] 2 _ rfl, chan_at x1 ![3, 0, 0] 3 _ rfl, chan_at x1 ![4, 0, 0] 4 _ rfl,
    chan_at x1 ![5, 0, 0] 5 _ rfl, chan_at x1 ![6, 0, 0] 6 _ rfl, chan_at x1 ![7, 0, 0] 7 _ rfl, chan_at x1 ![8, 0, 0] 8 _ rfl, chan_at x1 ![9, 0, 0] 9 _ rfl,
    chan_at x1 ![10, 0, 0] 10 _ rfl, chan_at x1 ![11, 0, 0] 11 _ rfl, chan_at x1 ![12, 0, 0] 12 _ rfl, chan_at x1 ![13, 0, 0] 13 _ rfl, chan_at x1 ![14, 0, 0] 14 _ rfl,
    chan_at x1 ![15, 0, 0] 15 _ rfl, chan_at x1 ![16, 0, 0] 16 _ rfl, chan_at x1 ![17, 0, 0] 17 _ rfl, chan_at x1 ![18, 0, 0] 18 _ rfl]
  unfold Pixel.score
  refine congrArg₂ (fun a b : EReal => a - Ideal.log b) ?_ ?_
  · exact Pixel.pick19 (shapeCast S256x512 x2 shapeCasts_S1x256x512_S256x512 (ix2 (j 1) (j 2))) t ((class_at x2 (ix2 (j 1) (j 2))).trans ht) (fun c => x1 (ix4 (0 : Fin 1) c (j 1) (j 2))) _ Scalar.select (fun _ _ => rfl) (fun _ _ => rfl) (Scalar.cmpi .eq) scalar_eq
  · rw [← Pixel.sum19 fun c => Ideal.exp (x1 (ix4 (0 : Fin 1) c (j 1) (j 2))), ← zero_bits]; rfl

end Cert.KernelIdeal.Value
-- ==== Proof.KernelCount.lean ====
/- The counting call's two results: over all the pixels, how many scores are at most the threshold, and their sum. -/
module

public import proofs.«01_k».proof.Proof.KernelPixel

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

/-- The logarithm of 7/10. -/
def lim : EReal := ((Real.log (7 / 10) : ℝ) : EReal)

/-- The pixel at row `r`, column `w` of block `t`. -/
def pix (t : ℕ) (r : Fin 256) (w : Fin 512) : S8x512x512.Idx :=
  ix3 (⟨t / 2 % 8, Nat.mod_lt _ (by decide)⟩ : Fin 8) (⟨t % 2 * 256 + r.val, by have := r.isLt; omega⟩ : Fin 512) w

/-- The logits of a pixel. -/
def logits (A : FVec Ideal S8x19x512x512 .f32) (q : S8x512x512.Idx) : Fin 19 → EReal := fun c => A (ix4 (q 0) c (q 1) (q 2))

/-- Row `r` of the sixteen of trip `k`, in the block. -/
def rowN (k : ℕ) (r : Fin 16) : Fin 256 := ⟨(16 * k + r.val) % 256, Nat.mod_lt _ (by decide)⟩

theorem row_eq (k : Fin k0_t1_loop.trips) (r : Fin 16) : row k r = rowN k.val r := by
  have h : k.val < 16 := k.isLt
  apply Fin.ext; show 16 * k.val + r.val = (16 * k.val + r.val) % 256
  have := r.isLt; omega

/-- The sum over the blocks, the rows and columns of a trip, and the trips, is the sum over the pixels. -/
theorem sum_pix (f : S8x512x512.Idx → EReal) :
    ∑ t ∈ Finset.range 16, ∑ j : S16x512.Idx, ∑ k ∈ Finset.range 16, f (pix t (rowN k (j 0)) (j 1)) = ∑ q, f q := by
  have h : ∀ t : ℕ, ∑ j : S16x512.Idx, ∑ k ∈ Finset.range 16, f (pix t (rowN k (j 0)) (j 1)) = ∑ x : S16x512.Idx × Fin 16, f (pix t (rowN x.2 (x.1 0)) (x.1 1)) := fun t => by
    rw [Fintype.sum_prod_type]
    exact Finset.sum_congr rfl fun j _ => Finset.sum_range _
  rw [Finset.sum_congr rfl fun t _ => h t, Finset.sum_range, ← Fintype.sum_prod_type' (f := fun (t : Fin 16) (x : S16x512.Idx × Fin 16) => f (pix t (rowN x.2 (x.1 0)) (x.1 1)))]
  refine Fintype.sum_bijective (fun y : Fin 16 × S16x512.Idx × Fin 16 => pix y.1 (rowN y.2.2 (y.2.1 0)) (y.2.1 1)) ⟨?_, ?_⟩ _ _ fun _ => rfl
  · rintro ⟨t, j, k⟩ ⟨t', j', k'⟩ he
    have h0 : t.val / 2 % 8 = t'.val / 2 % 8 := congrArg (fun q : S8x512x512.Idx => (q 0).val) he
    have h1 : t.val % 2 * 256 + (16 * k.val + (j 0).val) % 256 = t'.val % 2 * 256 + (16 * k'.val + (j' 0).val) % 256 := congrArg (fun q : S8x512x512.Idx => (q 1).val) he
    have h2 : (j 1).val = (j' 1).val := congrArg (fun q : S8x512x512.Idx => (q 2).val) he
    have := t.isLt; have := t'.isLt; have := k.isLt; have := k'.isLt
    have hj : (j 0).val < 16 := (j 0).isLt
    have hj' : (j' 0).val < 16 := (j' 0).isLt
    refine Prod.ext (Fin.ext ?_) (Prod.ext (funext fun a => Fin.ext ?_) (Fin.ext ?_))
    · show t.val = t'.val; omega
    · match a with
      | ⟨0, _⟩ => show (j 0).val = (j' 0).val; omega
      | ⟨1, _⟩ => exact h2
    · show k.val = k'.val; omega
  · intro q
    have h0 : (q 0).val < 8 := (q 0).isLt
    have h1 : (q 1).val < 512 := (q 1).isLt
    refine ⟨(⟨(q 0).val * 2 + (q 1).val / 256, by omega⟩, ix2 (⟨(q 1).val % 16, by omega⟩ : Fin 16) (q 2), ⟨(q 1).val % 256 / 16, by omega⟩), funext fun a => Fin.ext ?_⟩
    match a with
    | ⟨0, _⟩ => show ((q 0).val * 2 + (q 1).val / 256) / 2 % 8 = (q 0).val; omega
    | ⟨1, _⟩ => show ((q 0).val * 2 + (q 1).val / 256) % 2 * 256 + (16 * ((q 1).val % 256 / 16) + (q 1).val % 16) % 256 = (q 1).val; omega
    | ⟨2, _⟩ => rfl

/-! ## The loop -/

/-- The counting step at one pixel. -/
theorem pay4_at (acc E P : FVec Ideal S16x512 .f32) (j : S16x512.Idx) : k0_pay4 acc E P j = acc j + Pixel.ind lim (P j - Ideal.log (E j)) := by
  have hk : (Named.named (F := Ideal) (φ := .f32) κ "log_thresh" 0xBEB69E19#32 : EReal) = lim := IdealRules.named_const.ideal_named_scalar _ _ _ _ rfl
  simp only [k0_pay4, k0_pay3, k0_pay2, addf_apply, sitofp_apply, extui_apply, cmpf_apply, subf_apply, log_at, broadcast, hk]
  unfold Pixel.ind
  rw [show ∀ b : BitVec 32, (FloatOps.sitofp .f32 b : Ideal .f32) = ((b.toInt : ℝ) : EReal) from fun _ => rfl, Ideal.cmpf_def]
  by_cases h : P j - Ideal.log (E j) ≤ lim
  · simp [Ideal.cmp, h]
  · simp [Ideal.cmp, h]

/-- The summing step at one pixel. -/
theorem pay5_at (acc E P : FVec Ideal S16x512 .f32) (j : S16x512.Idx) : k0_pay5 acc E P j = acc j + Pixel.sel lim (P j - Ideal.log (E j)) := by
  have hk : (Named.named (F := Ideal) (φ := .f32) κ "log_thresh" 0xBEB69E19#32 : EReal) = lim := IdealRules.named_const.ideal_named_scalar _ _ _ _ rfl
  simp only [k0_pay5, k0_pay3, k0_pay2, addf_apply, select_apply, cmpf_apply, subf_apply, log_at, broadcast, hk]
  unfold Pixel.sel
  rw [Ideal.cmpf_def]
  by_cases h : P j - Ideal.log (E j) ≤ lim
  · simp [Ideal.cmp, h, Scalar.select]
  · simp only [Ideal.cmp, h, Scalar.select]
    exact congrArg (acc j + ·) zero_bits

/-- A trip's exponential sum and picked logit, at a named row of the block. -/
theorem trip_row (x1 : Vec Ideal S1x19x256x512 .f32) (x2 : Vec Ideal S1x256x512 .i32) (k : Fin k0_t1_loop.trips) (j : S16x512.Idx) (R : Fin 256)
    (hR : row k (j 0) = R) (t : Fin 19) (ht : Pixel.IsClass (x2 (ix3 (0 : Fin 1) R (j 1))) t) :
    expSum x1 k j = ∑ c : Fin 19, Ideal.exp (x1 (ix4 (0 : Fin 1) c R (j 1))) ∧ picked x1 x2 k j = x1 (ix4 (0 : Fin 1) t R (j 1)) := by
  subst hR
  exact trip_at x1 x2 k j t ht

/-- What `n` trips carry, at one pixel of the sixteen rows. -/
theorem carried_at (x1 : Vec Ideal S1x19x256x512 .f32) (x2 : Vec Ideal S1x256x512 .i32) (T : Fin 256 → Fin 512 → Fin 19)
    (hT : ∀ r w, Pixel.IsClass (x2 (ix3 (0 : Fin 1) r w)) (T r w)) (j : S16x512.Idx) (n : ℕ) (hn : n ≤ 16) :
    (carried x1 x2 n).1 j = ∑ k ∈ Finset.range n, Pixel.ind lim (Pixel.score (fun c => x1 (ix4 (0 : Fin 1) c (rowN k (j 0)) (j 1))) (T (rowN k (j 0)) (j 1)))
      ∧ (carried x1 x2 n).2 j = ∑ k ∈ Finset.range n, Pixel.sel lim (Pixel.score (fun c => x1 (ix4 (0 : Fin 1) c (rowN k (j 0)) (j 1))) (T (rowN k (j 0)) (j 1))) := by
  induction n with
  | zero => exact ⟨zero_bits, zero_bits⟩
  | succ n ih =>
    obtain ⟨ih1, ih2⟩ := ih (by omega)
    have hlt : n < k0_t1_loop.trips := by show n < 16; omega
    rw [carried, dif_pos hlt, Finset.sum_range_succ, Finset.sum_range_succ]
    obtain ⟨hE, hP⟩ := trip_row x1 x2 ⟨n, hlt⟩ j (rowN n (j 0)) (row_eq _ _) (T (rowN n (j 0)) (j 1)) (hT _ _)
    refine ⟨(pay4_at _ _ _ j).trans ?_, (pay5_at _ _ _ j).trans ?_⟩
    · rw [ih1, hE, hP]; rfl
    · rw [ih2, hE, hP]; rfl

theorem total (v : FVec Ideal S16x512 .f32) (j : S1.Idx) :
    multiReduction .add [1, 2] S1 (shapeCast S1x16x512 v shapeCasts_S16x512_S1x16x512) 0x00000000#32 reduces_S1x16x512_S1 (.inl rfl) rfl j = ∑ i, v i := by
  refine (Ideal.multiReduction_add_total (φ := .f32) (t := S1) _ _ _ (fun b => by fin_cases b; rfl) _ _ j).trans ?_
  exact Equiv.sum_comp (Shape.reshapeEquiv shapeCasts_S16x512_S1x16x512) v

theorem pay6_eq (v : FVec Ideal S16x512 .f32) (f : EReal) : k0_pay6 (F := Ideal) v f = f + ∑ i, v i := by
  simp only [k0_pay6]
  exact congrArg (f + ·) (total v _)
theorem pay7_eq (v : FVec Ideal S16x512 .f32) (f : EReal) : k0_pay7 (F := Ideal) v f = f + ∑ i, v i := by
  simp only [k0_pay7]
  exact congrArg (f + ·) (total v _)

/-! ## The blocks -/

theorem index0 : ∀ t : Fin grid0.N, win0_0.index t 0 = t.val / 2 % 8 ∧ win0_0.index t 1 = 0 ∧ win0_0.index t 2 = t.val % 2 ∧ win0_0.index t 3 = 0
    ∧ win0_1.index t 0 = t.val / 2 % 8 ∧ win0_1.index t 1 = t.val % 2 ∧ win0_1.index t 2 = 0 := by decide +kernel

variable (V : Valuation τ sig (Elt Ideal))

theorem logits0_at (t : Fin cfg0.N) (c : Fin 19) (r : Fin 256) (w : Fin 512) :
    logits0 V t (ix4 (0 : Fin 1) c r w) = logits (V main_arg0) (pix t.val r w) c := by
  obtain ⟨h0, h1, h2, h3, -⟩ := index0 t
  show V main_arg0 _ = V main_arg0 _
  congr 1
  funext a; apply Fin.ext
  match a with
  | ⟨0, _⟩ => show win0_0.index t 0 * 1 + 1 * 0 = t.val / 2 % 8; rw [h0]; omega
  | ⟨1, _⟩ => show win0_0.index t 1 * 19 + 1 * c.val = c.val; rw [h1]; omega
  | ⟨2, _⟩ => show win0_0.index t 2 * 256 + 1 * r.val = t.val % 2 * 256 + r.val; rw [h2]; omega
  | ⟨3, _⟩ => show win0_0.index t 3 * 512 + 1 * w.val = w.val; rw [h3]; omega

theorem classes0_at (t : Fin cfg0.N) (r : Fin 256) (w : Fin 512) :
    classes0 V t (ix3 (0 : Fin 1) r w) = (V main_arg1 : IVec S8x512x512 32) (pix t.val r w) := by
  obtain ⟨-, -, -, -, h0, h1, h2⟩ := index0 t
  show V main_arg1 _ = V main_arg1 _
  congr 1
  funext a; apply Fin.ext
  match a with
  | ⟨0, _⟩ => show win0_1.index t 0 * 1 + 1 * 0 = t.val / 2 % 8; rw [h0]; omega
  | ⟨1, _⟩ => show win0_1.index t 1 * 256 + 1 * r.val = t.val % 2 * 256 + r.val; rw [h1]; omega
  | ⟨2, _⟩ => show win0_1.index t 2 * 512 + 1 * w.val = w.val; rw [h2]; omega

/-! ## The counters -/

theorem first_succ : ∀ t : Fin grid0.N, t.val ≠ 0 → ¬ first (grid0.coords t) = 1#1 := by decide +kernel

/-- A counter that starts at zero is found as it was left. -/
theorem found_eq (t : Fin cfg0.N) (x : Vec Ideal S1x1 .f32) (h0 : t.val = 0 → x o11 = (0 : EReal)) : found (grid0.coords t) x = x o11 := by
  unfold found
  by_cases h : t.val = 0
  · rw [if_pos (first_zero t h), h0 h]; exact zero_bits
  · rw [if_neg (first_succ t h)]

variable (T : S8x512x512.Idx → Fin 19) (hT : ∀ q, Pixel.IsClass ((V main_arg1 : IVec S8x512x512 32) q) (T q))

include hT in
theorem counters (n : ℕ) (hn : n ≤ 16) :
    cnt V n o11 = ∑ t ∈ Finset.range n, ∑ j : S16x512.Idx, ∑ k ∈ Finset.range 16,
        Pixel.ind lim (Pixel.score (logits (V main_arg0) (pix t (rowN k (j 0)) (j 1))) (T (pix t (rowN k (j 0)) (j 1))))
      ∧ tot V n o11 = ∑ t ∈ Finset.range n, ∑ j : S16x512.Idx, ∑ k ∈ Finset.range 16,
        Pixel.sel lim (Pixel.score (logits (V main_arg0) (pix t (rowN k (j 0)) (j 1))) (T (pix t (rowN k (j 0)) (j 1)))) := by
  induction n with
  | zero => exact ⟨zero_bits, zero_bits⟩
  | succ n ih =>
    obtain ⟨ih1, ih2⟩ := ih (by omega)
    have hlt : n < cfg0.N := by show n < grid0.N; rw [N_0]; omega
    have hc := fun j : S16x512.Idx => carried_at (logits0 V ⟨n, hlt⟩) (classes0 V ⟨n, hlt⟩) (fun r w => T (pix n r w))
      (fun r w => by unfold Pixel.IsClass; rw [classes0_at V ⟨n, hlt⟩ r w]; exact hT _) j 16 le_rfl
    have hl : ∀ (k : ℕ) (j : S16x512.Idx), (fun c : Fin 19 => logits0 V ⟨n, hlt⟩ (ix4 (0 : Fin 1) c (rowN k (j 0)) (j 1))) = logits (V main_arg0) (pix n (rowN k (j 0)) (j 1)) :=
      fun k j => funext fun c => logits0_at V ⟨n, hlt⟩ c _ _
    rw [cnt, tot, dif_pos hlt, dif_pos hlt, Finset.sum_range_succ, Finset.sum_range_succ, ← ih1, ← ih2]
    have hz1 : (⟨n, hlt⟩ : Fin cfg0.N).val = 0 → cnt V n o11 = (0 : EReal) := fun h => by
      have h : n = 0 := h
      subst h; exact zero_bits
    have hz2 : (⟨n, hlt⟩ : Fin cfg0.N).val = 0 → tot V n o11 = (0 : EReal) := fun h => by
      have h : n = 0 := h
      subst h; exact zero_bits
    constructor
    · unfold cntAt
      rw [pay6_eq, found_eq ⟨n, hlt⟩ _ hz1]
      exact congrArg (cnt V n o11 + ·) (Finset.sum_congr rfl fun j _ => (hc j).1.trans (Finset.sum_congr rfl fun k _ => by rw [hl]))
    · unfold sumAt
      rw [pay7_eq, found_eq ⟨n, hlt⟩ _ hz2]
      exact congrArg (tot V n o11 + ·) (Finset.sum_congr rfl fun j _ => (hc j).2.trans (Finset.sum_congr rfl fun k _ => by rw [hl]))

include hT in
/-- The count and the sum after the last block. -/
theorem counters_end :
    cnt V 16 o11 = ∑ q, Pixel.ind lim (Pixel.score (logits (V main_arg0) q) (T q)) ∧ tot V 16 o11 = ∑ q, Pixel.sel lim (Pixel.score (logits (V main_arg0) q) (T q)) := by
  obtain ⟨h1, h2⟩ := counters V T hT 16 le_rfl
  exact ⟨h1.trans (sum_pix fun q => Pixel.ind lim (Pixel.score (logits (V main_arg0) q) (T q))),
    h2.trans (sum_pix fun q => Pixel.sel lim (Pixel.score (logits (V main_arg0) q) (T q)))⟩

end Cert.KernelIdeal.Value
-- ==== Proof.KernelArrays.lean ====
/- The arrays the two calls leave: the counters after the last block, and every pixel's score. -/
module

public import proofs.«01_k».proof.Proof.KernelCount

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

variable (V : Valuation τ sig (Elt Ideal)) (c : Dev nD)

/-! ## The counters -/

/-- The last point of the counting call. -/
def last0 : Fin cfg0.N := ⟨15, by show 15 < grid0.N; rw [N_0]; decide⟩

theorem last_of_flush (t : Fin cfg0.N) (h : t.val % 16 = 15) : t.val + 1 = 16 := by
  have : t.val < grid0.N := t.isLt
  rw [N_0] at this; omega

theorem origin0_2 : ∀ t : Fin grid0.N, win0_2.index t 0 * win0_2.size 0 = 0 ∧ win0_2.index t 1 * win0_2.size 1 = 0
    ∧ win0_2.xsize (grid0.coords t) 0 = 1 ∧ win0_2.xsize (grid0.coords t) 1 = 1 := by decide +kernel
theorem origin0_3 : ∀ t : Fin grid0.N, win0_3.index t 0 * win0_3.size 0 = 0 ∧ win0_3.index t 1 * win0_3.size 1 = 0
    ∧ win0_3.xsize (grid0.coords t) 0 = 1 ∧ win0_3.xsize (grid0.coords t) 1 = 1 := by decide +kernel

/-- A one-element block written back is that element. -/
theorem cut0_2 (t : Fin cfg0.N) (x : Vec Ideal S1x1 .f32) :
    (cfg0.win 2).cut (grid0.coords t) x = ((cfg0.win 2).blk t).view.read (Elt Ideal) (fun _ => x o11 : Vec Ideal S1x1 .f32) :=
  funext fun j => congrArg x (idx11 _)

theorem arr_cnt : (dat0 V c).arrAt 2 cfg0.N = (fun _ => cnt V 16 o11 : Vec Ideal S1x1 .f32) := by
  refine (dat0 V c).arrAt_eq_of_cover 2 _ (fun t hf => ?_) fun i => ⟨last0, (flush0_2 last0).mpr rfl, ?_⟩
  · show (cfg0.win 2).cut (grid0.coords t) ((dat0 V c).after 2 t) = _
    rw [after0_2, last_of_flush t ((flush0_2 t).mp hf)]
    exact cut0_2 t (cnt V 16)
  · show i ∈ ((View.whole main_v0_0).slice (win0_2.rect last0)).set
    rw [View.set_slice_whole, Rect.mem_set_unit]
    obtain ⟨e0, e1, x0, x1⟩ := origin0_2 last0
    have h0 : (i 0 : Nat) < 1 := (i 0).isLt
    have h1 : (i 1 : Nat) < 1 := (i 1).isLt
    intro a
    match a with
    | ⟨0, _⟩ => show win0_2.index last0 0 * win0_2.size 0 ≤ (i 0 : Nat) ∧ (i 0 : Nat) < win0_2.index last0 0 * win0_2.size 0 + win0_2.xsize (grid0.coords last0) 0
                rw [e0, x0]; omega
    | ⟨1, _⟩ => show win0_2.index last0 1 * win0_2.size 1 ≤ (i 1 : Nat) ∧ (i 1 : Nat) < win0_2.index last0 1 * win0_2.size 1 + win0_2.xsize (grid0.coords last0) 1
                rw [e1, x1]; omega

/-- A one-element block written back is that element. -/
theorem cut0_3 (t : Fin cfg0.N) (x : Vec Ideal S1x1 .f32) :
    (cfg0.win 3).cut (grid0.coords t) x = ((cfg0.win 3).blk t).view.read (Elt Ideal) (fun _ => x o11 : Vec Ideal S1x1 .f32) :=
  funext fun j => congrArg x (idx11 _)

theorem arr_tot : (dat0 V c).arrAt 3 cfg0.N = (fun _ => tot V 16 o11 : Vec Ideal S1x1 .f32) := by
  refine (dat0 V c).arrAt_eq_of_cover 3 _ (fun t hf => ?_) fun i => ⟨last0, (flush0_3 last0).mpr rfl, ?_⟩
  · show (cfg0.win 3).cut (grid0.coords t) ((dat0 V c).after 3 t) = _
    rw [after0_3, last_of_flush t ((flush0_3 t).mp hf)]
    exact cut0_3 t (tot V 16)
  · show i ∈ ((View.whole main_v0_1).slice (win0_3.rect last0)).set
    rw [View.set_slice_whole, Rect.mem_set_unit]
    obtain ⟨e0, e1, x0, x1⟩ := origin0_3 last0
    have h0 : (i 0 : Nat) < 1 := (i 0).isLt
    have h1 : (i 1 : Nat) < 1 := (i 1).isLt
    intro a
    match a with
    | ⟨0, _⟩ => show win0_3.index last0 0 * win0_3.size 0 ≤ (i 0 : Nat) ∧ (i 0 : Nat) < win0_3.index last0 0 * win0_3.size 0 + win0_3.xsize (grid0.coords last0) 0
                rw [e0, x0]; omega
    | ⟨1, _⟩ => show win0_3.index last0 1 * win0_3.size 1 ≤ (i 1 : Nat) ∧ (i 1 : Nat) < win0_3.index last0 1 * win0_3.size 1 + win0_3.xsize (grid0.coords last0) 1
                rw [e1, x1]; omega

/-! ## The scores -/

theorem index1 : ∀ t : Fin grid1.N, (win1_0.index t 0 = t.val / 2 % 8 ∧ win1_0.index t 1 = 0 ∧ win1_0.index t 2 = t.val % 2 ∧ win1_0.index t 3 = 0)
    ∧ (win1_1.index t 0 = t.val / 2 % 8 ∧ win1_1.index t 1 = t.val % 2 ∧ win1_1.index t 2 = 0)
    ∧ (win1_2.index t 0 = t.val / 2 % 8 ∧ win1_2.index t 1 = t.val % 2 ∧ win1_2.index t 2 = 0) := by decide +kernel
theorem size1_2 : ∀ t : Fin grid1.N, win1_2.xsize (grid1.coords t) 0 = 1 ∧ win1_2.xsize (grid1.coords t) 1 = 256 ∧ win1_2.xsize (grid1.coords t) 2 = 512
    ∧ win1_2.size 0 = 1 ∧ win1_2.size 1 = 256 ∧ win1_2.size 2 = 512 := by decide +kernel

theorem logits1_at (t : Fin cfg1.N) (c : Fin 19) (r : Fin 256) (w : Fin 512) :
    logits1 V t (ix4 (0 : Fin 1) c r w) = logits (V main_arg0) (pix t.val r w) c := by
  obtain ⟨⟨h0, h1, h2, h3⟩, -⟩ := index1 t
  show V main_arg0 _ = V main_arg0 _
  congr 1
  funext a; apply Fin.ext
  match a with
  | ⟨0, _⟩ => show win1_0.index t 0 * 1 + 1 * 0 = t.val / 2 % 8; rw [h0]; omega
  | ⟨1, _⟩ => show win1_0.index t 1 * 19 + 1 * c.val = c.val; rw [h1]; omega
  | ⟨2, _⟩ => show win1_0.index t 2 * 256 + 1 * r.val = t.val % 2 * 256 + r.val; rw [h2]; omega
  | ⟨3, _⟩ => show win1_0.index t 3 * 512 + 1 * w.val = w.val; rw [h3]; omega

theorem classes1_at (t : Fin cfg1.N) (r : Fin 256) (w : Fin 512) :
    classes1 V t (ix3 (0 : Fin 1) r w) = (V main_arg1 : IVec S8x512x512 32) (pix t.val r w) := by
  obtain ⟨-, ⟨h0, h1, h2⟩, -⟩ := index1 t
  show V main_arg1 _ = V main_arg1 _
  congr 1
  funext a; apply Fin.ext
  match a with
  | ⟨0, _⟩ => show win1_1.index t 0 * 1 + 1 * 0 = t.val / 2 % 8; rw [h0]; omega
  | ⟨1, _⟩ => show win1_1.index t 1 * 256 + 1 * r.val = t.val % 2 * 256 + r.val; rw [h1]; omega
  | ⟨2, _⟩ => show win1_1.index t 2 * 512 + 1 * w.val = w.val; rw [h2]; omega

/-- The block's pixel under an index of the result's block. -/
theorem block1_2 (t : Fin cfg1.N) (G : Vec Ideal S8x512x512 .f32) (j : S1x256x512.Idx) :
    (((cfg1.win 2).blk t).view.read (Elt Ideal) G : Vec Ideal S1x256x512 .f32) j = G (pix t.val (j 1) (j 2)) := by
  obtain ⟨-, -, ⟨h0, h1, h2⟩⟩ := index1 t
  have hj : (j 0).val < 1 := (j 0).isLt
  show G _ = G _
  congr 1
  funext a; apply Fin.ext
  match a with
  | ⟨0, _⟩ => show win1_2.index t 0 * 1 + 1 * (j 0).val = t.val / 2 % 8; rw [h0]; omega
  | ⟨1, _⟩ => show win1_2.index t 1 * 256 + 1 * (j 1).val = t.val % 2 * 256 + (j 1).val; rw [h1]; omega
  | ⟨2, _⟩ => show win1_2.index t 2 * 512 + 1 * (j 2).val = (j 2).val; rw [h2]; omega

variable (T : S8x512x512.Idx → Fin 19) (hT : ∀ q, Pixel.IsClass ((V main_arg1 : IVec S8x512x512 32) q) (T q))

include hT in
theorem arr_score : (dat1 V c).arrAt 2 cfg1.N = (fun q => Pixel.score (logits (V main_arg0) q) (T q) : Vec Ideal S8x512x512 .f32) := by
  refine (dat1 V c).arrAt_eq_of_cover 2 _ (fun t hf => ?_) fun i => ?_
  · show (cfg1.win 2).cut (grid1.coords t) ((dat1 V c).after 2 t) = _
    rw [after1_2]
    funext j
    refine Eq.trans ?_ (block1_2 t (fun q => Pixel.score (logits (V main_arg0) q) (T q)) j).symm
    refine (score_at (logits1 V t) (classes1 V t) j (T (pix t.val (j 1) (j 2))) ?_).trans ?_
    · exact (congrArg (Pixel.IsClass · (T (pix t.val (j 1) (j 2)))) (classes1_at V t (j 1) (j 2))).mpr (hT _)
    · exact congrArg (Pixel.score · (T (pix t.val (j 1) (j 2)))) (funext fun c => logits1_at V t c (j 1) (j 2))
  · have h0 : (i 0 : Nat) < 8 := (i 0).isLt
    have h1 : (i 1 : Nat) < 512 := (i 1).isLt
    have h2 : (i 2 : Nat) < 512 := (i 2).isLt
    have ht : (i 0 : Nat) * 2 + (i 1 : Nat) / 256 < cfg1.N := by show _ < grid1.N; rw [N_1]; omega
    refine ⟨⟨(i 0 : Nat) * 2 + (i 1 : Nat) / 256, ht⟩, flush1_2 _, ?_⟩
    show i ∈ ((View.whole main_case0b0_v6).slice (win1_2.rect ⟨(i 0 : Nat) * 2 + (i 1 : Nat) / 256, ht⟩)).set
    rw [View.set_slice_whole, Rect.mem_set_unit]
    generalize hg : (⟨(i 0 : Nat) * 2 + (i 1 : Nat) / 256, ht⟩ : Fin grid1.N) = t
    have hv : t.val = (i 0 : Nat) * 2 + (i 1 : Nat) / 256 := by rw [← hg]
    obtain ⟨-, -, ⟨e0, e1, e2⟩⟩ := index1 t
    obtain ⟨x0, x1, x2, s0, s1, s2⟩ := size1_2 t
    rw [hv] at e0 e1
    intro a
    match a with
    | ⟨0, _⟩ => show win1_2.index t 0 * win1_2.size 0 ≤ (i 0 : Nat) ∧ (i 0 : Nat) < win1_2.index t 0 * win1_2.size 0 + win1_2.xsize (grid1.coords t) 0
                rw [e0, x0, s0]; omega
    | ⟨1, _⟩ => show win1_2.index t 1 * win1_2.size 1 ≤ (i 1 : Nat) ∧ (i 1 : Nat) < win1_2.index t 1 * win1_2.size 1 + win1_2.xsize (grid1.coords t) 1
                rw [e1, x1, s1]; omega
    | ⟨2, _⟩ => show win1_2.index t 2 * win1_2.size 2 ≤ (i 2 : Nat) ∧ (i 2 : Nat) < win1_2.index t 2 * win1_2.size 2 + win1_2.xsize (grid1.coords t) 2
                rw [e2, x2, s2]; omega

end Cert.KernelIdeal.Value
-- ==== Proof.Select.lean ====
/- Order statistics over the extended reals: the element a sort puts at a position, and the two thresholds' equal selections. -/
module

public import Idealize.ShloMosaic.Lib.SortFacts
public import Idealize.ShloMosaic.PureOps.Ideal.Laws

@[expose] public section

noncomputable section

namespace Cert.Select

open Idealize.ShloMosaic

/-- The element sorted to position `p` is at most `y` exactly when more than `p` elements are. -/
theorem kth_le {n : ℕ} (x : Fin n → EReal) (R : Fin n → Fin n → Bool) (hR : ∀ a b, R a b = true ↔ x a < x b) (p : Fin n) (y : EReal) :
    x (sortedFrom R p) ≤ y ↔ p.val + 1 ≤ (Finset.univ.filter fun k => x k ≤ y).card := by
  have hf : ∀ a b, R a b = false ↔ x b ≤ x a := fun a b => by
    rw [← not_lt, ← hR, Bool.not_eq_true]
  have hmono : ∀ i j : Fin n, i ≤ j → x (sortedFrom R i) ≤ x (sortedFrom R j) := fun i j hij => by
    rcases hij.eq_or_lt with rfl | h
    · exact le_rfl
    · exact (hf _ _).mp (sortedFrom_noInversion R R (fun a b h => (hf _ _).mpr ((hR a b).mp h).le) (fun _ _ h => h)
        (fun a b c h₁ h₂ => (hf _ _).mpr (((hf _ _).mp h₂).trans ((hf _ _).mp h₁))) i j h)
  have hcard : (Finset.univ.filter fun k => x k ≤ y).card = (Finset.univ.filter fun k => x (sortedFrom R k) ≤ y).card := by
    symm
    refine Finset.card_bij (fun k _ => sortedFrom R k) (fun k hk => ?_) (fun a _ b _ h => sortedFrom_injective R h) (fun b hb => ?_)
    · exact Finset.mem_filter.mpr ⟨Finset.mem_univ _, (Finset.mem_filter.mp hk).2⟩
    · obtain ⟨a, rfl⟩ := sortedFrom_surjective R b
      exact ⟨a, Finset.mem_filter.mpr ⟨Finset.mem_univ _, (Finset.mem_filter.mp hb).2⟩, rfl⟩
  rw [hcard]
  constructor
  · intro h
    rw [← Fin.card_Iic p]
    refine Finset.card_le_card fun k hk => Finset.mem_filter.mpr ⟨Finset.mem_univ _, (hmono k p (Finset.mem_Iic.mp hk)).trans h⟩
  · intro h
    by_contra hy
    have : (Finset.univ.filter fun k => x (sortedFrom R k) ≤ y).card ≤ (Finset.Iio p).card := by
      refine Finset.card_le_card fun k hk => Finset.mem_Iio.mpr (not_le.mp fun hpk => hy ((hmono p k hpk).trans (Finset.mem_filter.mp hk).2))
    rw [Fin.card_Iio] at this
    omega

variable {ι : Type} [Fintype ι] (S Pr : ι → EReal) (k : ℕ) (v : ℝ) (t s : EReal)
  (hc : ∀ i (a : ℝ), Pr i ≤ ((Real.exp a : ℝ) : EReal) ↔ S i ≤ (a : EReal))
  (ht : ∀ y, t ≤ y ↔ k ≤ (Finset.univ.filter fun i => Pr i ≤ y).card)
  (hs : ∀ y, s ≤ y ↔ k ≤ (Finset.univ.filter fun i => S i ≤ y).card)

include hc in
theorem card_exp (a : ℝ) : (Finset.univ.filter fun i => Pr i ≤ ((Real.exp a : ℝ) : EReal)).card = (Finset.univ.filter fun i => S i ≤ (a : EReal)).card := by
  rw [Finset.filter_congr fun i _ => hc i a]

include hc ht in
/-- With enough scores at most `v`, the probabilities' threshold is `exp v`. -/
theorem select_fast (h : k ≤ (Finset.univ.filter fun i => S i ≤ (v : EReal)).card) (i : ι) :
    Pr i ≤ max t ((Real.exp v : ℝ) : EReal) ↔ S i ≤ (v : EReal) := by
  rw [max_eq_right ((ht _).mpr (by rw [card_exp S Pr hc]; exact h))]
  exact hc i v

include hc ht hs in
/-- With too few, both thresholds are the `k`-th smallest, the probabilities' the exponential of the scores'. -/
theorem select_slow (htop : t ≠ ⊤) (h : ¬ k ≤ (Finset.univ.filter fun i => S i ≤ (v : EReal)).card) (i : ι) :
    Pr i ≤ max t ((Real.exp v : ℝ) : EReal) ↔ S i ≤ s := by
  have htv : ((Real.exp v : ℝ) : EReal) < t := by
    rw [← not_le, ht, card_exp S Pr hc]; exact h
  have hsv : (v : EReal) < s := by
    rw [← not_le, hs]; exact h
  obtain ⟨q, hq⟩ : ∃ q : ℝ, t = (q : EReal) := ⟨t.toReal, (EReal.coe_toReal htop (ne_bot_of_gt htv)).symm⟩
  have hq0 : 0 < q := (Real.exp_pos v).trans (EReal.coe_lt_coe_iff.mp (hq ▸ htv))
  have hqe : t = ((Real.exp (Real.log q) : ℝ) : EReal) := by rw [Real.exp_log hq0, hq]
  have h1 : s ≤ ((Real.log q : ℝ) : EReal) := by
    rw [hs, ← card_exp S Pr hc, ← hqe]; exact (ht t).mp le_rfl
  obtain ⟨r, hr⟩ : ∃ r : ℝ, s = (r : EReal) :=
    ⟨s.toReal, (EReal.coe_toReal (ne_top_of_le_ne_top (EReal.coe_ne_top _) h1) (ne_bot_of_gt hsv)).symm⟩
  have h2 : t ≤ ((Real.exp r : ℝ) : EReal) := by
    rw [ht, card_exp S Pr hc, ← hr]; exact (hs s).mp le_rfl
  have hqr : Real.log q = r := by
    refine le_antisymm ?_ ?_
    · rw [hqe, EReal.coe_le_coe_iff, Real.exp_le_exp] at h2; exact h2
    · rw [hr, EReal.coe_le_coe_iff] at h1; exact h1
  rw [max_eq_left htv.le, hqe, hc, hqr, hr]

end Cert.Select
-- ==== Proof.KernelValue.lean ====
/- The kernel's result: the sum of the kept pixels' negated scores over their number. -/
module

public import proofs.«01_k».proof.Proof.KernelArrays
public import proofs.«01_k».proof.Proof.KernelIdealRun
public import proofs.«01_k».proof.Proof.Select
public import Idealize.ShloMosaic.Lib.SortFacts
public import Idealize.ShloMosaic.Lib.HostLoop

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

/-! ## The sort -/

theorem comparator_lt (l r : EReal) : comparator_f32_d0 (F := Ideal) l r = 1#1 ↔ l < r := by
  have hc : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := fun x => by
    rw [Ideal.cmpf_def, Ideal.cmpf_def, show (FloatOps.ofBits (F := Ideal) .f32 0x00000000#32 : EReal) = 0 from zero_bits]
    by_cases h : x = 0 <;> simp [Ideal.cmp, Scalar.select, h]
  unfold comparator_f32_d0
  dsimp only
  rw [hc l, hc r, Ideal.cmpfTotal_def]
  show BitVec.ofBool (decide (l < r)) = 1#1 ↔ l < r
  by_cases h : l < r <;> simp [h]

/-- The pixel at a flat position. -/
def unflat : Fin 2097152 ≃ S8x512x512.Idx where
  toFun k := Shape.reshapeEquiv shapeCasts_S8x512x512_S2097152 (Shape.Idx.ofFin k)
  invFun q := (Shape.reshapeEquiv shapeCasts_S8x512x512_S2097152).symm q 0
  left_inv k := by
    show ((Shape.reshapeEquiv shapeCasts_S8x512x512_S2097152).symm (Shape.reshapeEquiv shapeCasts_S8x512x512_S2097152 (Shape.Idx.ofFin k))) 0 = k
    rw [Equiv.symm_apply_apply]; rfl
  right_inv q := by
    show Shape.reshapeEquiv shapeCasts_S8x512x512_S2097152 (Shape.Idx.ofFin ((Shape.reshapeEquiv shapeCasts_S8x512x512_S2097152).symm q 0)) = q
    exact (congrArg _ (Shape.Idx.eq_ofFin (n := 2097152) _).symm).trans (Equiv.apply_symm_apply _ q)

/-- How many flat positions' values are at most `y`. -/
theorem card_flat (S : S8x512x512.Idx → EReal) (y : EReal) :
    (Finset.univ.filter fun k : Fin 2097152 => S (unflat k) ≤ y).card = (Finset.univ.filter fun q => S q ≤ y).card :=
  Finset.card_bij (fun k _ => unflat k) (fun k hk => by simpa using hk) (fun _ _ _ _ h => unflat.injective h)
    fun q hq => ⟨unflat.symm q, by simpa using hq, by simp⟩

/-- The sorted flat scores' element 99999 is at most `y` exactly when 100000 scores are. -/
theorem kth (S : S8x512x512.Idx → EReal) (j : S2097152.Idx) (hj : (j 0).val = 99999) (y : EReal) :
    Host.sort S2097152 0 (comparator_f32_d0 (F := Ideal)) (shapeCast S2097152 (S : FVec Ideal S8x512x512 .f32) shapeCasts_S8x512x512_S2097152) j ≤ y
      ↔ 100000 ≤ (Finset.univ.filter fun q => S q ≤ y).card := by
  rw [show Host.sort S2097152 0 (comparator_f32_d0 (F := Ideal)) (shapeCast S2097152 (S : FVec Ideal S8x512x512 .f32) shapeCasts_S8x512x512_S2097152) j = _ from
    Host.sort_rank1 (n := 2097152) (comparator_f32_d0 (F := Ideal)) _ j]
  have h := Select.kth_le (fun k => S (unflat k)) (fun k k' => comparator_f32_d0 (F := Ideal) (S (unflat k)) (S (unflat k')) == 1#1)
    (fun a b => by rw [beq_iff_eq]; exact comparator_lt _ _) (j 0) y
  rw [hj, card_flat] at h
  exact h

/-! ## Sums over the flat positions -/

theorem ofBits_100000 : Ideal.ofBits .f32 0x47C35000#32 = ((100000 : ℝ) : EReal) := by
  simp [Ideal.ofBits, Ideal.ieee, -EReal.coe_mul]; norm_num

/-- The sum of the indicators is the count. -/
theorem sum_ind {ι : Type} [Fintype ι] (S : ι → EReal) (v : EReal) : ∑ q, Pixel.ind v (S q) = (((Finset.univ.filter fun q => S q ≤ v).card : ℝ) : EReal) := by
  unfold Pixel.ind
  rw [Finset.sum_ite, Finset.sum_const_zero, add_zero, Finset.sum_const]
  simp

/-! ## The result -/

/-- The loss at threshold `v`: the kept scores' negated sum over their number. -/
def loss (S : S8x512x512.Idx → EReal) (v : EReal) : EReal := Ideal.div (-∑ q, Pixel.sel v (S q)) (∑ q, Pixel.ind v (S q))

theorem idx0_eq (j : S_.Idx) : j = HostLoop.idx0 := funext fun a => a.elim0

variable (m : (ℓ : Loc nD τ sig) → Buf (Elt Ideal) ℓ) (c : Dev nD)

theorem V2_v1 : (V2 m c main_v1 : FVec Ideal S_ .f32) = fun _ => cnt (V0 m c) 16 o11 := by
  funext j
  unfold V2
  after_results
  rw [V1_0, arr_cnt]
  generalize cnt (V0 m c) 16 o11 = x
  rfl
theorem V2_v2 : (V2 m c main_v2 : FVec Ideal S_ .f32) = fun _ => tot (V0 m c) 16 o11 := by
  funext j
  unfold V2
  after_results
  rw [V1_1, arr_tot]
  generalize tot (V0 m c) 16 o11 = x
  rfl
theorem cmp_at (x y : FVec Ideal S_ .f32) (j : S_.Idx) : cmpf .oge x y j = Ideal.cmp .oge (x j) (y j) := rfl
theorem div_at (x y : FVec Ideal S_ .f32) (j : S_.Idx) : Host.divf x y j = Ideal.div (x j) (y j) := rfl
theorem neg_at (x : FVec Ideal S_ .f32) (j : S_.Idx) : Host.negf x j = -(x j : EReal) := rfl

theorem V2_v3 : (V2 m c main_v3 : IVec S_ 1) = fun _ => Ideal.cmp .oge (cnt (V0 m c) 16 o11) (Ideal.ofBits .f32 0x47C35000#32) := by
  funext j
  unfold V2
  after_results
  rw [V1_0, arr_cnt]
  generalize cnt (V0 m c) 16 o11 = x
  exact cmp_at (fun _ => x) (constant S_ .f32 0x47C35000#32) j

theorem slow_iff : slow m c ↔ ¬ Ideal.ofBits .f32 0x47C35000#32 ≤ cnt (V0 m c) 16 o11 := by
  unfold slow word
  rw [V2_v3]
  by_cases h : Ideal.ofBits .f32 0x47C35000#32 ≤ cnt (V0 m c) 16 o11
  · simp only [Ideal.cmp, h, decide_true]; decide
  · simp only [Ideal.cmp, h, decide_false]; decide

theorem V3_ne (r : Ref sig .tc) (h : r ≠ main_v4) : V3 m c (Proc.devRef .tc r) = V2 m c (Proc.devRef .tc r) := by
  unfold V3
  exact StableHlo.unary_result_ne _ _ _ _ _ _ h

theorem quot_const (x y : EReal) (j : S_.Idx) : (Host.divf (Host.negf (fun _ => y : FVec Ideal S_ .f32)) (fun _ => x : FVec Ideal S_ .f32) : FVec Ideal S_ .f32) j = Ideal.div (-y) x := by
  rw [div_at, neg_at]

theorem V6_v5 : (V6 m c main_v5 : FVec Ideal S_ .f32) = fun _ => Ideal.div (-tot (V0 m c) 16 o11) (cnt (V0 m c) 16 o11) := by
  funext j
  unfold V6
  after_results
  rw [V3_ne m c main_v1 (by decide), V3_ne m c main_v2 (by decide), V2_v1, V2_v2]
  generalize cnt (V0 m c) 16 o11 = x
  generalize tot (V0 m c) 16 o11 = y
  rw [id_eq]
  exact quot_const x y j

end Cert.KernelIdeal.Value
-- ==== Proof.KernelSlow.lean ====
/- The slow branch's result, of the scores. -/
module

public import proofs.«01_k».proof.Proof.KernelValue

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

theorem red_at (x : FVec Ideal S2097152 .f32) (j : S_.Idx) :
    Host.reduceAdd x (constant (F := Ideal) S_ .f32 0x00000000#32) reducesTo_S2097152_S_d0 h_S_ j = ∑ i, x i := by
  refine (Ideal.hostReduceAdd_total reducesTo_S2097152_S_d0 (fun b => b.elim0) x (Ideal.ofBits .f32 0x00000000#32) j).trans ?_
  rw [zero_bits, zero_add]

/-- A number spread over the flat positions. -/
theorem bcast_at (b : FVec Ideal S_ .f32) (i : S2097152.Idx) : broadcastInDim S2097152 ![] bcast_S_S2097152 b i = b HostLoop.idx0 :=
  congrArg b (idx0_eq _)

theorem ind_at (X : FVec Ideal S2097152 .f32) (b : FVec Ideal S_ .f32) (i : S2097152.Idx) :
    uitofp (F := Ideal) .f32 (cmpf .ole X (broadcastInDim S2097152 ![] bcast_S_S2097152 b)) i = Pixel.ind (b HostLoop.idx0) (X i) := by
  rw [show uitofp (F := Ideal) .f32 (cmpf .ole X (broadcastInDim S2097152 ![] bcast_S_S2097152 b)) i
      = (((FloatOps.cmpf (F := Ideal) (φ := .f32) .ole (X i) (broadcastInDim S2097152 ![] bcast_S_S2097152 b i)).toNat : ℝ) : EReal) from rfl, bcast_at, Ideal.cmpf_def]
  unfold Pixel.ind
  by_cases h : X i ≤ b HostLoop.idx0
  · simp [Ideal.cmp, h]
  · simp [Ideal.cmp, h]

theorem sel_at (X : FVec Ideal S2097152 .f32) (b : FVec Ideal S_ .f32) (i : S2097152.Idx) :
    select (cmpf .ole X (broadcastInDim S2097152 ![] bcast_S_S2097152 b)) X (broadcastInDim S2097152 ![] bcast_S_S2097152 (constant (F := Ideal) S_ .f32 0x00000000#32)) i
      = Pixel.sel (b HostLoop.idx0) (X i) := by
  rw [show select (cmpf .ole X (broadcastInDim S2097152 ![] bcast_S_S2097152 b)) X (broadcastInDim S2097152 ![] bcast_S_S2097152 (constant (F := Ideal) S_ .f32 0x00000000#32)) i
      = Scalar.select (FloatOps.cmpf (F := Ideal) (φ := .f32) .ole (X i) (broadcastInDim S2097152 ![] bcast_S_S2097152 b i)) (X i) (Ideal.ofBits .f32 0x00000000#32 : EReal) from rfl,
    bcast_at, Ideal.cmpf_def, zero_bits]
  unfold Pixel.sel
  by_cases h : X i ≤ b HostLoop.idx0
  · simp [Ideal.cmp, h, Scalar.select]
  · simp [Ideal.cmp, h, Scalar.select]

/-- The slow branch's quotient, of the flat scores and the threshold. -/
theorem quot_at (X : FVec Ideal S2097152 .f32) (b : FVec Ideal S_ .f32) :
    Host.divf (Host.negf (Host.reduceAdd (select (cmpf .ole X (broadcastInDim S2097152 ![] bcast_S_S2097152 b)) X
        (broadcastInDim S2097152 ![] bcast_S_S2097152 (constant (F := Ideal) S_ .f32 0x00000000#32))) (constant (F := Ideal) S_ .f32 0x00000000#32) reducesTo_S2097152_S_d0 h_S_))
      (Host.reduceAdd (uitofp (F := Ideal) .f32 (cmpf .ole X (broadcastInDim S2097152 ![] bcast_S_S2097152 b))) (constant (F := Ideal) S_ .f32 0x00000000#32) reducesTo_S2097152_S_d0 h_S_)
      = fun _ => Ideal.div (-∑ i, Pixel.sel (b HostLoop.idx0) (X i)) (∑ i, Pixel.ind (b HostLoop.idx0) (X i)) := by
  funext j
  rw [div_at, neg_at, red_at, red_at]
  exact congrArg₂ (fun a b => Ideal.div (-a) b) (Finset.sum_congr rfl fun i _ => sel_at X b i) (Finset.sum_congr rfl fun i _ => ind_at X b i)

/-- The threshold read out of the sorted scores. -/
theorem elem_at (Y : FVec Ideal S2097152 .f32) :
    shapeCast S_ (extractStridedSlice S1 ![99999] Y slices_S2097152_S1_99999) shapeCasts_S1_S_ HostLoop.idx0 = Y (ix1 (⟨99999, by decide⟩ : Fin 2097152)) := by
  refine congrArg Y (funext fun a => Fin.ext ?_)
  match a with
  | ⟨0, _⟩ =>
    show 99999 + (Shape.reshapeEquiv shapeCasts_S1_S_ HostLoop.idx0 0).val = 99999
    have h : (Shape.reshapeEquiv shapeCasts_S1_S_ HostLoop.idx0 0).val < 1 := (Shape.reshapeEquiv shapeCasts_S1_S_ HostLoop.idx0 0).isLt
    omega

section Stretches
variable {F : FTy → Type} [FloatOps F] [Named F]

/-! The branch's operations, in three stretches: the flat scores, the threshold, the quotient. -/

/-- The flat scores, -/
abbrev flatOps : List (HloOp τ sig (Elt F)) :=
  [ StableHlo.reshape main_case0b0_v6 main_case0b0_v7 (rfl : (.f32 : EltTy) = .f32) shapeCasts_S8x512x512_S2097152 ]

/-- the threshold, -/
abbrev threshOps : List (HloOp τ sig (Elt F)) :=
  [ StableHlo.unary main_case0b0_v7 main_case0b0_v8 ((fun x => Host.sort S2097152 0 comparator_f32_d0 x) : (⟨S2097152, .f32⟩ : BufTy).Contents (Elt F) → (⟨S2097152, .f32⟩ : BufTy).Contents (Elt F)),
    StableHlo.unary main_case0b0_v8 main_case0b0_v9 ((extractStridedSlice S1 ![99999] · slices_S2097152_S1_99999) : (⟨S2097152, .f32⟩ : BufTy).Contents (Elt F) → (⟨S1, .f32⟩ : BufTy).Contents (Elt F)),
    StableHlo.reshape main_case0b0_v9 main_case0b0_v10 (rfl : (.f32 : EltTy) = .f32) shapeCasts_S1_S_ ]

/-- and the quotient. -/
abbrev quotOps : List (HloOp τ sig (Elt F)) :=
  [ StableHlo.unary main_case0b0_v10 main_case0b0_v11 (broadcastInDim S2097152 ![] bcast_S_S2097152 : (⟨S_, .f32⟩ : BufTy).Contents (Elt F) → (⟨S2097152, .f32⟩ : BufTy).Contents (Elt F)),
    StableHlo.binary main_case0b0_v7 main_case0b0_v11 main_case0b0_v12 (cmpf .ole : (⟨S2097152, .f32⟩ : BufTy).Contents (Elt F) → (⟨S2097152, .f32⟩ : BufTy).Contents (Elt F) → (⟨S2097152, .i1⟩ : BufTy).Contents (Elt F)),
    StableHlo.unary main_case0b0_v12 main_case0b0_v13 (uitofp .f32 : (⟨S2097152, .i1⟩ : BufTy).Contents (Elt F) → (⟨S2097152, .f32⟩ : BufTy).Contents (Elt F)),
    StableHlo.nullary main_case0b0_cst_0 (constant S_ .f32 0x00000000#32),
    StableHlo.binary main_case0b0_v13 main_case0b0_cst_0 main_case0b0_v14 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_case0b0_cst_1 (constant S_ .f32 0x00000000#32),
    StableHlo.unary main_case0b0_cst_1 main_case0b0_call0_v0 (id : (⟨S_, .f32⟩ : BufTy).Contents (Elt F) → (⟨S_, .f32⟩ : BufTy).Contents (Elt F)),
    StableHlo.unary main_case0b0_call0_v0 main_case0b0_call0_v1 (broadcastInDim S2097152 ![] bcast_S_S2097152 : (⟨S_, .f32⟩ : BufTy).Contents (Elt F) → (⟨S2097152, .f32⟩ : BufTy).Contents (Elt F)),
    StableHlo.ternary main_case0b0_v12 main_case0b0_v7 main_case0b0_call0_v1 main_case0b0_v15 (select : (⟨S2097152, .i1⟩ : BufTy).Contents (Elt F) → (⟨S2097152, .f32⟩ : BufTy).Contents (Elt F) → (⟨S2097152, .f32⟩ : BufTy).Contents (Elt F) → (⟨S2097152, .f32⟩ : BufTy).Contents (Elt F)),
    StableHlo.nullary main_case0b0_cst_2 (constant S_ .f32 0x00000000#32),
    StableHlo.binary main_case0b0_v15 main_case0b0_cst_2 main_case0b0_v16 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.unary main_case0b0_v16 main_case0b0_v17 (Host.negf : (⟨S_, .f32⟩ : BufTy).Contents (Elt F) → (⟨S_, .f32⟩ : BufTy).Contents (Elt F)),
    StableHlo.binary main_case0b0_v17 main_case0b0_v14 main_case0b0_v18 (Host.divf : (⟨S_, .f32⟩ : BufTy).Contents (Elt F) → (⟨S_, .f32⟩ : BufTy).Contents (Elt F) → (⟨S_, .f32⟩ : BufTy).Contents (Elt F)),
    StableHlo.unary main_case0b0_v18 main_v5 (id : (⟨S_, .f32⟩ : BufTy).Contents (Elt F) → (⟨S_, .f32⟩ : BufTy).Contents (Elt F)) ]

end Stretches

theorem flat_v7 (W : Valuation τ sig (Elt Ideal)) (S : FVec Ideal S8x512x512 .f32) (hS : W main_case0b0_v6 = S) :
    StableHlo.after (flatOps (F := Ideal)) W main_case0b0_v7 = (shapeCast S2097152 S shapeCasts_S8x512x512_S2097152 : FVec Ideal S2097152 .f32) := by
  after_results
  rw [hS]
  rfl

theorem thresh_v7 (W : Valuation τ sig (Elt Ideal)) : StableHlo.after (threshOps (F := Ideal)) W main_case0b0_v7 = W main_case0b0_v7 := by
  after_results

theorem thresh_v10 (W : Valuation τ sig (Elt Ideal)) (X : FVec Ideal S2097152 .f32) (hX : W main_case0b0_v7 = X) :
    StableHlo.after (threshOps (F := Ideal)) W main_case0b0_v10
      = (shapeCast S_ (extractStridedSlice S1 ![99999] (Host.sort S2097152 0 (comparator_f32_d0 (F := Ideal)) X) slices_S2097152_S1_99999) shapeCasts_S1_S_ : FVec Ideal S_ .f32) := by
  after_results
  rw [hX]
  rfl

theorem quot_v5 (W : Valuation τ sig (Elt Ideal)) (X : FVec Ideal S2097152 .f32) (b : FVec Ideal S_ .f32) (hX : W main_case0b0_v7 = X) (hb : W main_case0b0_v10 = b) :
    StableHlo.after (quotOps (F := Ideal)) W main_v5 = (fun _ => Ideal.div (-∑ i, Pixel.sel (b HostLoop.idx0) (X i)) (∑ i, Pixel.ind (b HostLoop.idx0) (X i)) : FVec Ideal S_ .f32) := by
  after_results
  rw [hX, hb]
  simp only [id_eq]
  exact quot_at X b

/-- Its result of the scores: the threshold is the sorted scores' element 99999. -/
theorem V5_v5 (S : S8x512x512.Idx → EReal) (hS : (V4 m c main_case0b0_v6 : FVec Ideal S8x512x512 .f32) = S) :
    ∃ s, (∀ y, s ≤ y ↔ 100000 ≤ (Finset.univ.filter fun q => S q ≤ y).card) ∧ (V5 m c main_v5 : FVec Ideal S_ .f32) = fun _ => loss S s := by
  refine ⟨_, fun y => kth S (ix1 (⟨99999, by decide⟩ : Fin 2097152)) rfl y, ?_⟩
  have h7 := flat_v7 (V4 m c) S hS
  refine (quot_v5 (StableHlo.after (threshOps (F := Ideal)) (StableHlo.after (flatOps (F := Ideal)) (V4 m c))) _ _ ((thresh_v7 _).trans h7) (thresh_v10 _ _ h7)).trans ?_
  rw [elem_at]
  generalize Host.sort S2097152 0 (comparator_f32_d0 (F := Ideal)) (shapeCast S2097152 (S : FVec Ideal S8x512x512 .f32) shapeCasts_S8x512x512_S2097152) (ix1 (⟨99999, by decide⟩ : Fin 2097152)) = s
  refine funext fun _ => ?_
  exact congrArg₂ (fun a b => Ideal.div (-a) b) (Equiv.sum_comp (Shape.reshapeEquiv shapeCasts_S8x512x512_S2097152) fun q => Pixel.sel s (S q))
    (Equiv.sum_comp (Shape.reshapeEquiv shapeCasts_S8x512x512_S2097152) fun q => Pixel.ind s (S q))

end Cert.KernelIdeal.Value
-- ==== Proof.KernelResult.lean ====
/- The kernel's result: the loss at a threshold that keeps what the reference keeps. -/
module

public import proofs.«01_k».proof.Proof.KernelSlow

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

theorem V3_arg (r : Ref sig .tc) (h4 : r ≠ main_v4) (h0 : r ≠ main_v0_0) (h1 : r ≠ main_v0_1) (ho : ∀ op ∈ (hostOps1 : List (HloOp τ sig (Elt Ideal))), Proc.devRef .tc r ∉ op.writes) :
    V3 m c (Proc.devRef .tc r) = m (c, Proc.devRef .tc r) := by
  rw [V3_ne m c r h4]
  unfold V2
  rw [StableHlo.after_of_forall_not_mem _ _ ho, V1_ne m c _ (StableHlo.devRef_ne_of_ne h0) (StableHlo.devRef_ne_of_ne h1)]
  rfl

/-- The kernel's result: the loss at a threshold that keeps exactly the pixels whose probability is at most the larger of 7/10 and the
    100000-th smallest probability. -/
theorem result (T : S8x512x512.Idx → Fin 19) (hT : ∀ q, Pixel.IsClass ((m (c, Proc.devRef .tc main_arg1) : IVec S8x512x512 32) q) (T q))
    (S : S8x512x512.Idx → EReal) (hS : S = fun q => Pixel.score (logits (m (c, Proc.devRef .tc main_arg0)) q) (T q))
    (Pr : S8x512x512.Idx → EReal) (t : EReal) (hc : ∀ i (a : ℝ), Pr i ≤ ((Real.exp a : ℝ) : EReal) ↔ S i ≤ (a : EReal))
    (ht : ∀ y, t ≤ y ↔ 100000 ≤ (Finset.univ.filter fun q => Pr q ≤ y).card) (htop : t ≠ ⊤) :
    ∃ v, (∀ i, Pr i ≤ max t ((7 / 10 : ℝ) : EReal) ↔ S i ≤ v) ∧ (Vend m c main_v5 : FVec Ideal S_ .f32) = fun _ => loss S v := by
  have he : ((7 / 10 : ℝ) : EReal) = ((Real.exp (Real.log (7 / 10)) : ℝ) : EReal) := by rw [Real.exp_log (by norm_num)]
  obtain ⟨hcnt, htot⟩ := counters_end (V0 m c) T hT
  have hcnt : cnt (V0 m c) 16 o11 = ∑ q, Pixel.ind lim (S q) := by rw [hS]; exact hcnt
  have htot : tot (V0 m c) 16 o11 = ∑ q, Pixel.sel lim (S q) := by rw [hS]; exact htot
  have hn : Ideal.ofBits .f32 0x47C35000#32 ≤ cnt (V0 m c) 16 o11 ↔ 100000 ≤ (Finset.univ.filter fun q => S q ≤ ((Real.log (7 / 10) : ℝ) : EReal)).card := by
    rw [hcnt, sum_ind, ofBits_100000, EReal.coe_le_coe_iff]
    exact_mod_cast Iff.rfl
  rw [he]
  unfold Vend
  by_cases hs : slow m c
  · rw [if_pos hs]
    have hk := mt hn.mpr ((slow_iff m c).mp hs)
    have h4 : (V4 m c main_case0b0_v6 : FVec Ideal S8x512x512 .f32) = S := by
      rw [V4_6, arr_score (V3 m c) c T (fun q => by
        rw [V3_arg m c main_arg1 (by decide) (by decide) (by decide) (by decide)]; exact hT q), V3_arg m c main_arg0 (by decide) (by decide) (by decide) (by decide), hS]
    obtain ⟨s, hsc, h5⟩ := V5_v5 m c S h4
    exact ⟨s, Select.select_slow S Pr 100000 _ t s hc ht hsc htop hk, h5⟩
  · rw [if_neg hs]
    have hk := hn.mp (not_not.mp (mt (slow_iff m c).mpr hs))
    refine ⟨lim, Select.select_fast S Pr 100000 _ t hc ht hk, ?_⟩
    rw [V6_v5, hcnt, htot]
    rfl

end Cert.KernelIdeal.Value
-- ==== Proof.RefPixel.lean ====
/- The reference at one pixel: the probability and the log probability of a class, and the flat position of a pixel. -/
module

public import proofs.«01_k».proof.Proof.Gen.ReferenceIdeal.Read
public import proofs.«01_k».proof.Proof.Pixel
public import Idealize.ShloMosaic.Lib.KernelVsHost
public import Idealize.ShloMosaic.Lib.ValueIdx

@[expose] public section

set_option maxRecDepth 16384

noncomputable section

namespace Cert.ReferenceIdeal.Loss

open Cert.ReferenceIdeal Cert.ReferenceIdeal.Gen Cert.ReferenceIdeal.Read
open Idealize.ShloMosaic Idealize.ShloMosaic.TcCoe Idealize.ShloMosaic.ValueIdx

theorem zero_bits : Ideal.ofBits .f32 0x00000000#32 = 0 := by simp [Ideal.ofBits, Ideal.ieee]
theorem bot_bits : Ideal.ofBits .f32 0xFF800000#32 = ⊥ := by simp [Ideal.ofBits, Ideal.ieee]

/-- The logits of a pixel. -/
def logits (A : FVec Ideal S8x19x512x512 .f32) (q : S8x512x512.Idx) : Fin 19 → EReal := fun c => A (ix4 (q 0) c (q 1) (q 2))

variable (x0 : FVec Ideal S8x19x512x512 .f32)

theorem red : S8x19x512x512.Reduces [1] S8x512x512 := by decide

theorem lift_at (q : S8x512x512.Idx) : (fun c : Fin 19 => x0 (red.lift q c)) = logits x0 q := by
  funext c
  exact congrArg x0 (funext fun a => Fin.ext (by match a with | ⟨0, _⟩ => rfl | ⟨1, _⟩ => rfl | ⟨2, _⟩ => rfl | ⟨3, _⟩ => rfl))

theorem fold_top (L : Fin 19 → EReal) (b : EReal) (hb : b = ⊥) : Finset.univ.fold max b L = Pixel.top L := by
  subst hb; rfl

theorem max_at (q : S8x512x512.Idx) :
    Host.reduce (FloatOps.maximumf (F := Ideal) (φ := .f32)) x0 (constant S_ .f32 0xFF800000#32) reducesTo_S8x19x512x512_S8x512x512_d1 h_S_ q = Pixel.top (logits x0 q) := by
  rw [hostReduce_maximumf_eq_multiReduction x0 0xFF800000#32 reducesTo_S8x19x512x512_S8x512x512_d1 h_S_ red (.inl rfl) rfl]
  rw [Ideal.multiReduction_maximumf_single x0 0xFF800000#32 red (.inl rfl) rfl q]
  rw [← lift_at]
  exact fold_top (fun c : Fin 19 => x0 (red.lift q c)) _ bot_bits

theorem v5_at (q : S8x512x512.Idx) : (val_main_v5 (F := Ideal) x0 q : EReal) = Pixel.top (logits x0 q) := by
  unfold val_main_v5 val_main_cst
  exact max_at x0 q

theorem v7_at (q : S8x512x512.Idx) : (val_main_v7 (F := Ideal) x0 q : EReal) = Pixel.top (logits x0 q) :=
  (val_main_v7_apply (F := Ideal) x0 q).trans ((congrArg₂ max ((val_main_v6_apply (F := Ideal) q).trans bot_bits) (v5_at x0 q)).trans (max_eq_right bot_le))

/-- A logit less the pixel's largest. -/
theorem v10_at (q : S8x512x512.Idx) (c : Fin 19) : (val_main_v10 (F := Ideal) x0 (ix4 (q 0) c (q 1) (q 2)) : EReal) = logits x0 q c - Pixel.top (logits x0 q) := by
  refine (val_main_v10_apply (F := Ideal) x0 _).trans ?_
  refine congrArg (fun y : EReal => logits x0 q c - y) ?_
  refine (val_main_v9_apply (F := Ideal) x0 _).trans ((val_main_v8_apply (F := Ideal) x0 _).trans ((congrArg (val_main_v7 (F := Ideal) x0) ?_).trans (v7_at x0 q)))
  funext a; apply Fin.ext
  match a with
  | ⟨0, _⟩ => rfl
  | ⟨1, _⟩ => rfl
  | ⟨2, _⟩ => rfl

theorem v11_at (q : S8x512x512.Idx) (c : Fin 19) : (val_main_v11 (F := Ideal) x0 (ix4 (q 0) c (q 1) (q 2)) : EReal) = Ideal.exp (logits x0 q c - Pixel.top (logits x0 q)) :=
  congrArg Ideal.exp (v10_at x0 q c)

theorem v12_at (q : S8x512x512.Idx) : (val_main_v12 (F := Ideal) x0 q : EReal) = ∑ c, Ideal.exp (logits x0 q c - Pixel.top (logits x0 q)) := by
  refine (val_main_v12_apply x0 q).trans ?_
  refine (congrArg (· + _) (show (val_main_cst_1 (F := Ideal) (Shape.Idx.first h_S_) : EReal) = 0 from zero_bits)).trans ((zero_add _).trans ?_)
  refine Finset.sum_congr rfl fun c _ => ?_
  refine (congrArg (val_main_v11 (F := Ideal) x0) ?_).trans (v11_at x0 q c)
  funext a; apply Fin.ext
  match a with
  | ⟨0, _⟩ => rfl
  | ⟨1, _⟩ => rfl
  | ⟨2, _⟩ => rfl
  | ⟨3, _⟩ => rfl

/-- The probability of a class at a pixel. -/
theorem v15_at (q : S8x512x512.Idx) (c : Fin 19) : (val_main_v15 (F := Ideal) x0 (ix4 (q 0) c (q 1) (q 2)) : EReal) = Pixel.prob (logits x0 q) c := by
  refine (val_main_v15_apply (F := Ideal) x0 _).trans ?_
  refine congrArg₂ Ideal.div (v11_at x0 q c) ?_
  refine (val_main_v14_apply (F := Ideal) x0 _).trans ((val_main_v13_apply (F := Ideal) x0 _).trans ((congrArg (val_main_v12 (F := Ideal) x0) ?_).trans (v12_at x0 q)))
  funext a; apply Fin.ext
  match a with
  | ⟨0, _⟩ => rfl
  | ⟨1, _⟩ => rfl
  | ⟨2, _⟩ => rfl

theorem call3_v0_at (q : S8x512x512.Idx) : (val_main_call3_v0 (F := Ideal) x0 q : EReal) = Pixel.top (logits x0 q) := by
  unfold val_main_call3_v0 val_main_call3_cst
  exact max_at x0 q

theorem call3_v2_at (q : S8x512x512.Idx) : (val_main_call3_v2 (F := Ideal) x0 q : EReal) = Pixel.top (logits x0 q) :=
  (val_main_call3_v2_apply (F := Ideal) x0 q).trans ((congrArg₂ max ((val_main_call3_v1_apply (F := Ideal) q).trans bot_bits) (call3_v0_at x0 q)).trans (max_eq_right bot_le))

/-- The log probability's shifted logit. -/
theorem call3_v5_at (q : S8x512x512.Idx) (c : Fin 19) : (val_main_call3_v5 (F := Ideal) x0 (ix4 (q 0) c (q 1) (q 2)) : EReal) = logits x0 q c - Pixel.top (logits x0 q) := by
  refine (val_main_call3_v5_apply (F := Ideal) x0 _).trans ?_
  refine congrArg (fun y : EReal => logits x0 q c - y) ?_
  refine (val_main_call3_v4_apply (F := Ideal) x0 _).trans ((val_main_call3_v3_apply (F := Ideal) x0 _).trans ((congrArg (val_main_call3_v2 (F := Ideal) x0) ?_).trans (call3_v2_at x0 q)))
  funext a; apply Fin.ext
  match a with
  | ⟨0, _⟩ => rfl
  | ⟨1, _⟩ => rfl
  | ⟨2, _⟩ => rfl

theorem call3_v7_at (q : S8x512x512.Idx) : (val_main_call3_v7 (F := Ideal) x0 q : EReal) = ∑ c, Ideal.exp (logits x0 q c - Pixel.top (logits x0 q)) := by
  refine (val_main_call3_v7_apply x0 q).trans ?_
  refine (congrArg (· + _) (show (val_main_call3_cst_1 (F := Ideal) (Shape.Idx.first h_S_) : EReal) = 0 from zero_bits)).trans ((zero_add _).trans ?_)
  refine Finset.sum_congr rfl fun c _ => ?_
  refine (congrArg (val_main_call3_v6 (F := Ideal) x0) ?_).trans (congrArg Ideal.exp (call3_v5_at x0 q c))
  funext a; apply Fin.ext
  match a with
  | ⟨0, _⟩ => rfl
  | ⟨1, _⟩ => rfl
  | ⟨2, _⟩ => rfl
  | ⟨3, _⟩ => rfl

/-- The log probability of a class at a pixel. -/
theorem v51_at (q : S8x512x512.Idx) (c : Fin 19) : (val_main_v51 (F := Ideal) x0 (ix4 (q 0) c (q 1) (q 2)) : EReal) = Pixel.logp (logits x0 q) c := by
  refine (val_main_v51_apply (F := Ideal) x0 _).trans ?_
  refine congrArg₂ (fun a b : EReal => a - b) (call3_v5_at x0 q c) ?_
  refine (val_main_call3_v10_apply (F := Ideal) x0 _).trans ?_
  refine congrArg Ideal.log ((val_main_call3_v8_apply (F := Ideal) x0 _).trans ((congrArg (val_main_call3_v7 (F := Ideal) x0) ?_).trans (call3_v7_at x0 q)))
  funext a; apply Fin.ext
  match a with
  | ⟨0, _⟩ => rfl
  | ⟨1, _⟩ => rfl
  | ⟨2, _⟩ => rfl

/-! ## The flat positions -/

/-- The pixel at a flat position. -/
abbrev px (i : S2097152.Idx) : S8x512x512.Idx := idx_main_v0 i

/-- The probability of class `c` at flat position `i`, out of the transposed and flattened probabilities. -/
theorem v17_at (i : S2097152.Idx) (c : Fin 19) (j : S19x2097152.Idx) (h0 : (j 0).val = c.val) (h1 : (j 1).val = (i 0).val) :
    (val_main_v17 (F := Ideal) x0 j : EReal) = Pixel.prob (logits x0 (px i)) c := by
  refine (val_main_v17_apply (F := Ideal) x0 j).trans ((val_main_v16_apply (F := Ideal) x0 _).trans ((congrArg (val_main_v15 (F := Ideal) x0) ?_).trans (v15_at x0 (px i) c)))
  have hi : (i 0).val < 2097152 := (i 0).isLt
  have hc := c.isLt
  funext a; apply Fin.ext
  match a with
  | ⟨0, _⟩ => show ((j 0).val * 2097152 + (j 1).val) / 262144 % 8 = (i 0).val / 262144; rw [h0, h1]; omega
  | ⟨1, _⟩ => show ((j 0).val * 2097152 + (j 1).val) / 2097152 = c.val; rw [h0, h1]; omega
  | ⟨2, _⟩ => show ((j 0).val * 2097152 + (j 1).val) / 512 % 512 = (i 0).val / 512 % 512; rw [h0, h1]; omega
  | ⟨3, _⟩ => show ((j 0).val * 2097152 + (j 1).val) % 512 = (i 0).val % 512; rw [h0, h1]; omega

/-- The log probability of class `c` at flat position `i`. -/
theorem v53_at (i : S2097152.Idx) (c : Fin 19) (j : S2097152x19.Idx) (h0 : (j 0).val = (i 0).val) (h1 : (j 1).val = c.val) :
    (val_main_v53 (F := Ideal) x0 j : EReal) = Pixel.logp (logits x0 (px i)) c := by
  refine (val_main_v53_apply (F := Ideal) x0 j).trans ((val_main_v52_apply (F := Ideal) x0 _).trans ((congrArg (val_main_v51 (F := Ideal) x0) ?_).trans (v51_at x0 (px i) c)))
  have hi : (i 0).val < 2097152 := (i 0).isLt
  have hc := c.isLt
  funext a; apply Fin.ext
  match a with
  | ⟨0, _⟩ => show ((j 0).val * 19 + (j 1).val) / 4980736 = (i 0).val / 262144; rw [h0, h1]; omega
  | ⟨1, _⟩ => show ((j 0).val * 19 + (j 1).val) % 19 = c.val; rw [h0, h1]; omega
  | ⟨2, _⟩ => show ((j 0).val * 19 + (j 1).val) / 9728 % 512 = (i 0).val / 512 % 512; rw [h0, h1]; omega
  | ⟨3, _⟩ => show ((j 0).val * 19 + (j 1).val) / 19 % 512 = (i 0).val % 512; rw [h0, h1]; omega

end Cert.ReferenceIdeal.Loss
-- ==== Proof.RefGather.lean ====
/- The reference's two gathers and its pair sort, read at an element. -/
module

public import proofs.«01_k».proof.Proof.Gen.ReferenceIdeal.Read
public import proofs.«01_k».proof.Proof.Select
public import proofs.«01_k».proof.Proof.RefPixel
public import Idealize.ShloMosaic.Lib.ValueIdx

@[expose] public section

set_option maxRecDepth 16384

noncomputable section

namespace Cert.ReferenceIdeal.Loss

open Cert.ReferenceIdeal Cert.ReferenceIdeal.Gen
open Idealize.ShloMosaic Idealize.ShloMosaic.TcCoe Idealize.ShloMosaic.ValueIdx

/-- A table read at one (class, position) pair per position. -/
theorem pair_gather (x : FVec Ideal S19x2097152 .f32) (idx : IVec S2097152x2 32) (y : S2097152.Idx) (j : S19x2097152.Idx)
    (h0 : (j 0).val = min (idx (ix2 (y 0) 0)).toInt.toNat 18) (h1 : (j 1).val = min (idx (ix2 (y 0) 1)).toInt.toNat 2097151) :
    Host.gather gather_S19x2097152_S2097152x2_S2097152_n_01_n_n_01_1_11 x idx y = x j := by
  unfold Host.gather
  congr 1
  funext a
  refine Fin.ext ?_
  show GatherDims.start _ y idx a + GatherDims.batchCoord _ y a + GatherDims.offCoord _ y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S19x2097152_S2097152x2_S2097152_n_01_n_n_01_1_11] at h),
      GatherDims.offCoord_eq_zero _ _ _ (fun h => ((GatherDims.mem_sKept _ _).mp h).1 (by decide))]
    simp only [Nat.add_zero]
    unfold GatherDims.start
    rw [dif_pos (by decide), h0]
    have hsi : GatherDims.siIdx gather_S19x2097152_S2097152x2_S2097152_n_01_n_n_01_1_11 y
        ⟨List.idxOf (0 : Fin 2) gather_S19x2097152_S2097152x2_S2097152_n_01_n_n_01_1_11.startIndexMap,
        List.idxOf_lt_length_iff.2 (by decide)⟩ = ix2 (y 0) 0 := by
      funext b; refine Fin.ext ?_
      match b with
      | ⟨0, _⟩ => rfl
      | ⟨1, _⟩ => rfl
    rw [hsi]
    rfl
  · rw [GatherDims.batchCoord_eq_zero _ _ _ (fun h => by simp [gather_S19x2097152_S2097152x2_S2097152_n_01_n_n_01_1_11] at h),
      GatherDims.offCoord_eq_zero _ _ _ (fun h => ((GatherDims.mem_sKept _ _).mp h).1 (by decide))]
    simp only [Nat.add_zero]
    unfold GatherDims.start
    rw [dif_pos (by decide), h1]
    have hsi : GatherDims.siIdx gather_S19x2097152_S2097152x2_S2097152_n_01_n_n_01_1_11 y
        ⟨List.idxOf (1 : Fin 2) gather_S19x2097152_S2097152x2_S2097152_n_01_n_n_01_1_11.startIndexMap,
        List.idxOf_lt_length_iff.2 (by decide)⟩ = ix2 (y 0) 1 := by
      funext b; refine Fin.ext ?_
      match b with
      | ⟨0, _⟩ => rfl
      | ⟨1, _⟩ => rfl
    rw [hsi]
    rfl

/-- A table's row read at one class per row. -/
theorem row_gather (x : FVec Ideal S2097152x19 .f32) (idx : IVec S2097152x1x1 32) (y : S2097152x1.Idx) (j : S2097152x19.Idx)
    (h0 : (j 0).val = (y 0).val) (h1 : (j 1).val = min (idx (ix3 (y 0) (y 1) 0)).toInt.toNat 18) :
    Host.gather gather_S2097152x19_S2097152x1x1_S2097152x1_n_1_0_0_1_2_11 x idx y = x j := by
  unfold Host.gather
  congr 1
  funext a
  refine Fin.ext ?_
  show GatherDims.start _ y idx a + GatherDims.batchCoord _ y a + GatherDims.offCoord _ y a = _
  have h01 : a = 0 ∨ a = 1 := by
    match a with
    | ⟨0, _⟩ => exact Or.inl rfl
    | ⟨1, _⟩ => exact Or.inr rfl
  rcases h01 with rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide), h0]
    rfl
  · rw [GatherDims.batchCoord_eq_zero _ _ _ (fun h => by simp [gather_S2097152x19_S2097152x1x1_S2097152x1_n_1_0_0_1_2_11] at h),
      GatherDims.offCoord_eq_zero _ _ _ (fun h => ((GatherDims.mem_sKept _ _).mp h).1 (by decide))]
    simp only [Nat.add_zero]
    unfold GatherDims.start
    rw [dif_pos (by decide), h1]
    have hsi : GatherDims.siIdx gather_S2097152x19_S2097152x1x1_S2097152x1_n_1_0_0_1_2_11 y
        ⟨List.idxOf (1 : Fin 2) gather_S2097152x19_S2097152x1x1_S2097152x1_n_1_0_0_1_2_11.startIndexMap,
        List.idxOf_lt_length_iff.2 (by decide)⟩ = ix3 (y 0) (y 1) 0 := by
      funext b; refine Fin.ext ?_
      match b with
      | ⟨0, _⟩ => rfl
      | ⟨1, _⟩ => rfl
      | ⟨2, _⟩ => rfl
    rw [hsi]
    rfl

/-- The pair sort's order is `<` on the values. -/
theorem comparator_lt (l r : EReal) (a b : BitVec 32) : comparator_f32_i32_d0 (F := Ideal) (l, a) (r, b) = 1#1 ↔ l < r := by
  have hc : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := fun x => by
    rw [Ideal.cmpf_def, Ideal.cmpf_def, show (FloatOps.ofBits (F := Ideal) .f32 0x00000000#32 : EReal) = 0 from zero_bits]
    by_cases h : x = 0 <;> simp [Ideal.cmp, Scalar.select, h]
  unfold comparator_f32_i32_d0
  dsimp only
  rw [hc l, hc r, Ideal.cmpfTotal_def]
  show BitVec.ofBool (decide (l < r)) = 1#1 ↔ l < r
  by_cases h : l < r <;> simp [h]

/-- A pair sort along a line reads the second table through one map of the positions. -/
theorem sort2_snd {n : ℕ} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j = y (Shape.Idx.ofFin (sortedFrom
      (fun k k' => cmp (x (Shape.Idx.ofFin k), y (Shape.Idx.ofFin k)) (x (Shape.Idx.ofFin k'), y (Shape.Idx.ofFin k')) == 1#1) (j 0))) := by
  unfold Host.sort2
  simp

/-- The pair sort of values with their positions, for an order that is `<` on the values: element `p` of the second
result is the position of a value that is at most `y` exactly when more than `p` of the values are. -/
theorem argsort {n : ℕ} (cmp : EReal × BitVec 32 → EReal × BitVec 32 → BitVec 1) (hcmp : ∀ l r a b, cmp (l, a) (r, b) = 1#1 ↔ l < r)
    (x : (⟨1, ![n]⟩ : Shape).Idx → EReal) (j : (⟨1, ![n]⟩ : Shape).Idx) (p : Fin n) (hp : p = j 0) :
    ∃ k : Fin n, (Host.sort2 ⟨1, ![n]⟩ 0 cmp x (iotaInDim ⟨1, ![n]⟩ 32 0)).2 j = BitVec.ofNat 32 k.val
      ∧ ∀ y : EReal, x (Shape.Idx.ofFin k) ≤ y ↔ p.val + 1 ≤ (Finset.univ.filter fun i : Fin n => x (Shape.Idx.ofFin i) ≤ y).card := by
  subst hp
  exact ⟨_, sort2_snd cmp x (iotaInDim ⟨1, ![n]⟩ 32 0) j,
    fun y => Select.kth_le (fun k => x (Shape.Idx.ofFin k)) _ (fun a b => by rw [beq_iff_eq]; exact hcmp _ _ _ _) (j 0) y⟩

theorem argsort_at (x : FVec Ideal S2097152 .f32) (j : S2097152.Idx) (p : Fin 2097152) (hp : p = j 0) :
    ∃ k : Fin 2097152, (Host.sort2 S2097152 0 (comparator_f32_i32_d0 (F := Ideal)) x (iotaInDim S2097152 32 0)).2 j = BitVec.ofNat 32 k.val
      ∧ ∀ y : EReal, (x (Shape.Idx.ofFin k) : EReal) ≤ y ↔ p.val + 1 ≤ (Finset.univ.filter fun i : Fin 2097152 => (x (Shape.Idx.ofFin i) : EReal) ≤ y).card :=
  argsort (n := 2097152) (comparator_f32_i32_d0 (F := Ideal)) comparator_lt x j p hp

end Cert.ReferenceIdeal.Loss
-- ==== Proof.RefSelect.lean ====
/- The reference's threshold: the 100000-th smallest probability of the labels' classes, and at least 7/10. -/
module

public import proofs.«01_k».proof.Proof.RefGather

@[expose] public section

set_option maxRecDepth 16384

noncomputable section

namespace Cert.ReferenceIdeal.Loss

open Cert.ReferenceIdeal Cert.ReferenceIdeal.Gen Cert.ReferenceIdeal.Read
open Idealize.ShloMosaic Idealize.ShloMosaic.TcCoe Idealize.ShloMosaic.ValueIdx

/-! ## Words -/

theorem select_zero {α : Type} (a b : α) : Scalar.select 0#1 a b = b := rfl
theorem select_one {α : Type} (a b : α) : Scalar.select 1#1 a b = a := rfl
theorem class_ne (t : Fin 19) : IntOp.cmpi .ne (BitVec.ofNat 32 t.val) 255#32 = 1#1 := by revert t; decide
theorem class_nonneg (t : Fin 19) : IntOp.cmpi .slt (BitVec.ofNat 32 t.val) 0#32 = 0#1 := by revert t; decide
theorem class_mul (t : Fin 19) : IntOp.muli (BitVec.ofNat 32 t.val) ((1#1).setWidth 32) = BitVec.ofNat 32 t.val := by revert t; decide
theorem class_int (t : Fin 19) : min (BitVec.ofNat 32 t.val).toInt.toNat 18 = t.val := by revert t; decide

theorem pos_int (n : ℕ) (h : n < 2097152) : (BitVec.ofNat 32 n).toInt = (n : ℤ) := by
  rw [BitVec.toInt_eq_toNat_of_lt] <;> simp only [BitVec.toNat_ofNat] <;> omega

theorem pos_nonneg (n : ℕ) (h : n < 2097152) : IntOp.cmpi .slt (BitVec.ofNat 32 n) 0#32 = 0#1 := by
  have : (BitVec.ofNat 32 n).slt 0#32 = false := by
    rw [BitVec.slt, pos_int n h]; simp
  show BitVec.ofBool ((BitVec.ofNat 32 n).slt 0#32) = 0#1
  rw [this]; rfl

variable (x0 : FVec Ideal S8x19x512x512 .f32) (x1 : IVec S8x512x512 32) (T : S8x512x512.Idx → Fin 19)
  (hT : ∀ q, Pixel.IsClass (x1 q) (T q))

/-! ## The labels -/

include hT in
theorem v0_at (i : S2097152.Idx) : (val_main_v0 (F := Ideal) x1 i : BitVec 32) = BitVec.ofNat 32 (T (px i)).val :=
  (val_main_v0_apply (F := Ideal) x1 i).trans (hT (px i))

theorem v1_at (i : S2097152.Idx) : (val_main_v1 (F := Ideal) i : BitVec 32) = 255#32 :=
  val_main_v1_apply (F := Ideal) i

include hT in
theorem v2_at (i : S2097152.Idx) : (val_main_v2 (F := Ideal) x1 i : BitVec 1) = 1#1 :=
  (val_main_v2_apply (F := Ideal) x1 i).trans ((congrArg₂ (IntOp.cmpi .ne) (v0_at x1 T hT i) (v1_at i)).trans (class_ne _))

include hT in
theorem v4_at (i : S2097152.Idx) : (val_main_v4 (F := Ideal) x1 i : BitVec 32) = BitVec.ofNat 32 (T (px i)).val :=
  (val_main_v4_apply (F := Ideal) x1 i).trans ((congrArg₂ IntOp.muli (v0_at x1 T hT i)
    ((val_main_v3_apply (F := Ideal) x1 i).trans (congrArg (fun b : BitVec 1 => b.setWidth 32) (v2_at x1 T hT i)))).trans (class_mul _))

include hT in
theorem v25_at (i : S2097152.Idx) : (val_main_v25 (F := Ideal) x1 i : BitVec 32) = BitVec.ofNat 32 (T (px i)).val := by
  refine (val_main_v25_apply (F := Ideal) x1 i).trans ?_
  have h : (val_main_v22 (F := Ideal) x1 i : BitVec 1) = 0#1 :=
    (val_main_v22_apply (F := Ideal) x1 i).trans ((congrArg₂ (IntOp.cmpi .slt) (v4_at x1 T hT i) (val_main_v21_apply (F := Ideal) i)).trans (class_nonneg _))
  exact (congrArg (fun b : BitVec 1 => Scalar.select b _ _) h).trans (v4_at x1 T hT i)

theorem v30_at (i : S2097152.Idx) : (val_main_v30 (F := Ideal) i : BitVec 32) = BitVec.ofNat 32 (i 0).val := by
  refine (val_main_v30_apply (F := Ideal) i).trans ?_
  have h : (val_main_v27 (F := Ideal) i : BitVec 1) = 0#1 :=
    (val_main_v27_apply (F := Ideal) i).trans ((congrArg₂ (IntOp.cmpi .slt) (val_main_v20_apply (F := Ideal) i) (val_main_v26_apply (F := Ideal) i)).trans
      (pos_nonneg _ (i 0).isLt))
  exact (congrArg (fun b : BitVec 1 => Scalar.select b _ _) h).trans (val_main_v20_apply (F := Ideal) i)

include hT in
theorem v33_class (i : S2097152.Idx) : (val_main_v33 (F := Ideal) x1 (ix2 (i 0) 0) : BitVec 32) = BitVec.ofNat 32 (T (px i)).val := by
  unfold val_main_v33
  refine (concatenate_pair_apply_left (t := S2097152x2) (s₁ := S2097152x1) (s₂ := S2097152x1) 1 _ _ concatenates_S2097152x1_S2097152x1_S2097152x2_d1 (ix2 (i 0) 0) rfl (ix2 (i 0) 0)
    (fun b => by match b with | ⟨0, _⟩ => rfl | ⟨1, _⟩ => rfl)).trans ?_
  refine (val_main_v31_apply (F := Ideal) x1 _).trans ((congrArg (val_main_v25 (F := Ideal) x1) ?_).trans (v25_at x1 T hT i))
  funext a; apply Fin.ext
  match a with
  | ⟨0, _⟩ => rfl

theorem v33_pos (i : S2097152.Idx) : (val_main_v33 (F := Ideal) x1 (ix2 (i 0) 1) : BitVec 32) = BitVec.ofNat 32 (i 0).val := by
  unfold val_main_v33
  refine (concatenate_pair_apply_right (t := S2097152x2) (s₁ := S2097152x1) (s₂ := S2097152x1) 1 _ _ concatenates_S2097152x1_S2097152x1_S2097152x2_d1 (ix2 (i 0) 1) rfl rfl (ix2 (i 0) 0)
    (fun b hb => by match b, hb with | ⟨0, _⟩, _ => rfl | ⟨1, _⟩, hb => exact absurd rfl hb) rfl).trans ?_
  refine (val_main_v32_apply (F := Ideal) _).trans ((congrArg (val_main_v30 (F := Ideal)) ?_).trans (v30_at i))
  funext a; apply Fin.ext
  match a with
  | ⟨0, _⟩ => rfl

/-- The probability of a pixel's class. -/
def Pr (q : S8x512x512.Idx) : EReal := Pixel.prob (logits x0 q) (T q)

include hT in
theorem v34_at (i : S2097152.Idx) : (val_main_v34 (F := Ideal) x0 x1 i : EReal) = Pr x0 T (px i) := by
  unfold val_main_v34
  have hi : (i 0).val < 2097152 := (i 0).isLt
  refine (pair_gather _ _ i (ix2 (T (px i)) (i 0)) ?_ ?_).trans ?_
  · rw [v33_class x1 T hT i]; exact (class_int _).symm
  · rw [v33_pos x1 i, pos_int _ hi]
    show (i 0).val = min (((i 0).val : ℤ)).toNat 2097151
    rw [Int.toNat_natCast]; omega
  · refine (val_main_v19_apply (F := Ideal) x0 x1 _).trans ?_
    have h : (val_main_call0_v1 (F := Ideal) x1 (ix2 (T (px i)) (i 0)) : BitVec 1) = 1#1 :=
      (val_main_call0_v1_apply (F := Ideal) x1 _).trans ((val_main_v18_apply (F := Ideal) x1 _).trans (v2_at x1 T hT _))
    exact (congrArg (fun b : BitVec 1 => Scalar.select b _ _) h).trans (v17_at x0 i (T (px i)) _ rfl rfl)

/-! ## The threshold -/

/-- The flat positions are the pixels. -/
def flat : Fin 2097152 ≃ S8x512x512.Idx where
  toFun k := Shape.reshapeEquiv shapeCasts_S8x512x512_S2097152 (Shape.Idx.ofFin k)
  invFun q := (Shape.reshapeEquiv shapeCasts_S8x512x512_S2097152).symm q 0
  left_inv k := by
    show ((Shape.reshapeEquiv shapeCasts_S8x512x512_S2097152).symm (Shape.reshapeEquiv shapeCasts_S8x512x512_S2097152 (Shape.Idx.ofFin k))) 0 = k
    rw [Equiv.symm_apply_apply]; rfl
  right_inv q := by
    show Shape.reshapeEquiv shapeCasts_S8x512x512_S2097152 (Shape.Idx.ofFin ((Shape.reshapeEquiv shapeCasts_S8x512x512_S2097152).symm q 0)) = q
    exact (congrArg _ (Shape.Idx.eq_ofFin (n := 2097152) _).symm).trans (Equiv.apply_symm_apply _ q)

theorem px_eq (i : S2097152.Idx) : Shape.reshapeEquiv shapeCasts_S8x512x512_S2097152 i = px i :=
  Shape.reshapeEquiv_eq_of_rowMajor _ (by
    rewrite [Shape.rowMajor_val_three, Shape.rowMajor_val_one]; have h0 : (i 0).val < 2097152 := (i 0).isLt
    show (((i 0).val) / 262144 * 512 + ((i 0).val) / 512 % 512) * 512 + ((i 0).val) % 512 = (i 0).val; omega)

theorem card_flat (S : S8x512x512.Idx → EReal) (y : EReal) :
    (Finset.univ.filter fun k : Fin 2097152 => S (flat k) ≤ y).card = (Finset.univ.filter fun q => S q ≤ y).card :=
  Finset.card_bij (fun k _ => flat k) (fun k hk => by simpa using hk) (fun _ _ _ _ h => flat.injective h)
    fun q hq => ⟨flat.symm q, by simpa using hq, by simp⟩

include hT in
theorem v34_flat (k : Fin 2097152) : (val_main_v34 (F := Ideal) x0 x1 (Shape.Idx.ofFin k) : EReal) = Pr x0 T (flat k) :=
  (v34_at x0 x1 T hT _).trans (congrArg (Pr x0 T) (px_eq _).symm)

theorem one_elt (a : S1.Idx) (b : S_.Idx) : (S1.rowMajor a).val = (S_.rowMajor b).val := by
  have h1 := (S1.rowMajor a).isLt
  have h2 := (S_.rowMajor b).isLt
  have e1 : S1.numel = 1 := by decide
  have e2 : S_.numel = 1 := by decide
  omega

/-- A one-element slice of the flat probabilities, at a position in range. -/
theorem slice_at (x : FVec Ideal S2097152 .f32) (start : Fin 1 → Int) (k : Fin 2097152) (h0 : start 0 = (k.val : ℤ)) (j : S1.Idx) :
    Host.dynamicSlice S1 x start sliceFits_S2097152_S1 j = x (Shape.Idx.ofFin k) := by
  unfold Host.dynamicSlice
  refine extractStridedSlice_apply _ x _ j (Shape.Idx.ofFin k) (fun a => ?_)
  have hk := k.isLt
  have hj : (j 0).val < 1 := (j 0).isLt
  match a with
  | ⟨0, _⟩ =>
    show k.val = (min (max (start 0) 0) ((2097152 - 1 : ℕ) : ℤ)).toNat + (j 0).val
    rw [h0]; omega

theorem v37_at (k : Fin 2097152) (hk : (val_main_v35 (F := Ideal) x0 x1 (idx_main_v36 (ix1 0)) : BitVec 32) = BitVec.ofNat 32 k.val) (j : S_.Idx) :
    (val_main_v37 (F := Ideal) x0 x1 j : BitVec 32) = BitVec.ofNat 32 k.val := by
  have h36 := (val_main_v36_apply (F := Ideal) x0 x1 (ix1 0)).trans hk
  unfold val_main_v37
  generalize val_main_v36 (F := Ideal) x0 x1 = y at h36
  exact (shapeCast_apply y shapeCasts_S1_S_ j (ix1 0) (one_elt _ _)).trans h36

theorem v40_at (k : Fin 2097152) (h37 : ∀ j : S_.Idx, (val_main_v37 (F := Ideal) x0 x1 j : BitVec 32) = BitVec.ofNat 32 k.val) (j : S_.Idx) :
    (val_main_v40 (F := Ideal) x0 x1 j : BitVec 32) = BitVec.ofNat 32 k.val := by
  refine (val_main_v40_apply (F := Ideal) x0 x1 j).trans ?_
  have h : (val_main_v38 (F := Ideal) x0 x1 j : BitVec 1) = 0#1 :=
    (val_main_v38_apply (F := Ideal) x0 x1 j).trans ((congrArg₂ (IntOp.cmpi .slt) (h37 j) (val_main_c_7_apply (F := Ideal) j)).trans (pos_nonneg _ k.isLt))
  exact (congrArg (fun b : BitVec 1 => Scalar.select b (val_main_v39 (F := Ideal) x0 x1 j) (val_main_v37 (F := Ideal) x0 x1 j)) h).trans ((select_zero _ _).trans (h37 j))

theorem slice_word (x : FVec Ideal S2097152 .f32) (w : IVec S_ 32) (k : Fin 2097152) (hw : (w (Shape.Idx.first h_S_)).toInt = (k.val : ℤ)) (j : S1.Idx) :
    Host.dynamicSlice S1 x (fun a => (((![w] : Fin 1 → IVec S_ 32)) a (Shape.Idx.first h_S_)).toInt) sliceFits_S2097152_S1 j = x (Shape.Idx.ofFin k) := by
  refine slice_at x _ k ?_ j
  rw [← hw]; rfl

theorem v41_at (k : Fin 2097152) (h40 : ∀ j : S_.Idx, (val_main_v40 (F := Ideal) x0 x1 j : BitVec 32) = BitVec.ofNat 32 k.val) :
    (val_main_v41 (F := Ideal) x0 x1 (ix1 0) : EReal) = val_main_v34 (F := Ideal) x0 x1 (Shape.Idx.ofFin k) := by
  have h0 : (val_main_v40 (F := Ideal) x0 x1 (Shape.Idx.first h_S_) : BitVec 32).toInt = (k.val : ℤ) := by rw [h40]; exact pos_int _ k.isLt
  unfold val_main_v41
  revert h0
  generalize val_main_v40 (F := Ideal) x0 x1 = w
  generalize val_main_v34 (F := Ideal) x0 x1 = y
  intro h0
  rw [slice_word y w k h0 (ix1 0)]

theorem cast_one (y : FVec Ideal S1 .f32) (j : S_.Idx) : shapeCast S_ y shapeCasts_S1_S_ j = y (ix1 0) :=
  shapeCast_apply y shapeCasts_S1_S_ j (ix1 0) (one_elt _ _)

theorem v42_at (j : S_.Idx) : (val_main_v42 (F := Ideal) x0 x1 j : EReal) = val_main_v41 (F := Ideal) x0 x1 (ix1 0) := by
  unfold val_main_v42
  generalize val_main_v41 (F := Ideal) x0 x1 = y
  rw [cast_one]

theorem seven_bits : Ideal.ofBits .f32 0x40E00000#32 = ((7 : ℝ) : EReal) := by
  simp [Ideal.ofBits, Ideal.ieee, -EReal.coe_mul]; norm_num
theorem ten_bits : Ideal.ofBits .f32 0x41200000#32 = ((10 : ℝ) : EReal) := by
  simp [Ideal.ofBits, Ideal.ieee, -EReal.coe_mul]; norm_num

theorem v43_at (j : S_.Idx) : (val_main_v43 (F := Ideal) j : EReal) = ((7 / 10 : ℝ) : EReal) := by
  refine (val_main_v43_apply (F := Ideal) j).trans ?_
  show Ideal.div (Ideal.ofBits .f32 0x40E00000#32) (Ideal.ofBits .f32 0x41200000#32) = _
  rw [seven_bits, ten_bits, Ideal.div_coe (by norm_num)]
  rw [← EReal.coe_mul]; norm_num

theorem pos36 : (⟨99999, by omega⟩ : Fin 2097152) = (idx_main_v36 (ix1 0)) 0 := by
  apply Fin.ext
  have h : ((ix1 0 : S1.Idx) 0).val < 1 := ((ix1 0 : S1.Idx) 0).isLt
  show 99999 = 99999 + ((ix1 0 : S1.Idx) 0).val
  omega

theorem kth_flat : ∃ k : Fin 2097152, (val_main_v35 (F := Ideal) x0 x1 (idx_main_v36 (ix1 0)) : BitVec 32) = BitVec.ofNat 32 k.val
    ∧ ∀ y : EReal, (val_main_v34 (F := Ideal) x0 x1 (Shape.Idx.ofFin k) : EReal) ≤ y
      ↔ 99999 + 1 ≤ (Finset.univ.filter fun i : Fin 2097152 => (val_main_v34 (F := Ideal) x0 x1 (Shape.Idx.ofFin i) : EReal) ≤ y).card := by
  unfold val_main_v35 val_main_call1_v0
  generalize val_main_v34 (F := Ideal) x0 x1 = x
  exact argsort_at x (idx_main_v36 (ix1 0)) ⟨99999, by omega⟩ pos36

include hT in
/-- The reference's threshold is the larger of 7/10 and a probability `t` that is at most `y` exactly when 100000 of
the probabilities are. -/
theorem threshold : ∃ t : EReal, t ≠ ⊤ ∧ (∀ y, t ≤ y ↔ 100000 ≤ (Finset.univ.filter fun q => Pr x0 T q ≤ y).card)
    ∧ ∀ j : S_.Idx, (val_main_v44 (F := Ideal) x0 x1 j : EReal) = max t ((7 / 10 : ℝ) : EReal) := by
  obtain ⟨k, hk, hy⟩ := kth_flat x0 x1
  refine ⟨Pr x0 T (flat k), Pixel.prob_ne_top _ _, fun y => ?_, fun j => ?_⟩
  · have h := hy y
    simp only [v34_flat x0 x1 T hT] at h
    rw [card_flat] at h
    exact h
  · have h42 := (v42_at x0 x1 j).trans ((v41_at x0 x1 k (v40_at x0 x1 k (v37_at x0 x1 k hk))).trans (v34_flat x0 x1 T hT k))
    exact (val_main_v44_apply (F := Ideal) x0 x1 j).trans (congrArg₂ max h42 (v43_at j))

end Cert.ReferenceIdeal.Loss
-- ==== Proof.RefLoss.lean ====
/- The reference's loss: over the pixels whose probability is at most the threshold, the mean of minus the log probability. -/
module

public import proofs.«01_k».proof.Proof.RefSelect
public import Idealize.ShloMosaic.Lib.ReduceAll

@[expose] public section

set_option maxRecDepth 16384

noncomputable section

namespace Cert.ReferenceIdeal.Loss

open Cert.ReferenceIdeal Cert.ReferenceIdeal.Gen Cert.ReferenceIdeal.Read
open Idealize.ShloMosaic Idealize.ShloMosaic.TcCoe Idealize.ShloMosaic.ValueIdx

/-! ## Words -/

/-- The class read at a pixel: its own where the pixel is kept, 0 where it is not. -/
def cls (b : Bool) (t : Fin 19) : Fin 19 := if b then t else 0

theorem kept_label (b : Bool) (t : Fin 19) : Scalar.select (IntOp.andi 1#1 (BitVec.ofBool b)) (IntOp.muli (BitVec.ofNat 32 t.val) ((BitVec.ofBool b).setWidth 32)) 255#32
    = if b then BitVec.ofNat 32 t.val else 255#32 := by revert b t; decide
theorem kept_bit (b : Bool) (t : Fin 19) : IntOp.cmpi .ne (if b then BitVec.ofNat 32 t.val else 255#32) 255#32 = BitVec.ofBool b := by revert b t; decide
theorem kept_class (b : Bool) (t : Fin 19) : Scalar.select (BitVec.ofBool b) (if b then BitVec.ofNat 32 t.val else 255#32) 0#32 = BitVec.ofNat 32 (cls b t).val := by
  revert b t; decide
theorem class_range (t : Fin 19) : IntOp.andi (IntOp.cmpi .sge (BitVec.ofNat 32 t.val) 0#32) (IntOp.cmpi .sle (BitVec.ofNat 32 t.val) 18#32) = 1#1 := by revert t; decide

theorem times_bit (b : Bool) (t : Fin 19) (L : Fin 19 → EReal) :
    (-(L (cls b t)) * (((BitVec.ofBool b).toNat : ℝ) : EReal) : EReal) = if b then -(L t) else 0 := by
  cases b <;> simp [cls]
theorem bit_real (b : Bool) : ((((BitVec.ofBool b).toNat : ℝ) : EReal) : EReal) = if b then 1 else 0 := by
  cases b <;> simp

variable (x0 : FVec Ideal S8x19x512x512 .f32) (x1 : IVec S8x512x512 32) (T : S8x512x512.Idx → Fin 19)
  (hT : ∀ q, Pixel.IsClass (x1 q) (T q)) (M : EReal) (hM : ∀ j : S_.Idx, (val_main_v44 (F := Ideal) x0 x1 j : EReal) = M)

/-! ## The kept labels -/

/-- Whether a pixel is kept. -/
def kept (q : S8x512x512.Idx) : Bool := decide (Pr x0 T q ≤ M)

include hT hM in
theorem v46_at (i : S2097152.Idx) : (val_main_v46 (F := Ideal) x0 x1 i : BitVec 1) = BitVec.ofBool (kept x0 T M (px i)) := by
  refine (val_main_v46_apply (F := Ideal) x0 x1 i).trans ?_
  have h45 : (val_main_v45 (F := Ideal) x0 x1 i : EReal) = M := (val_main_v45_apply (F := Ideal) x0 x1 i).trans (hM _)
  exact (congrArg₂ (fun a b : EReal => FloatOps.cmpf (F := Ideal) (φ := .f32) .ole a b) (v34_at x0 x1 T hT i) h45).trans (Ideal.cmpf_def _ _ _)

include hT hM in
theorem v50_at (i : S2097152.Idx) : (val_main_v50 (F := Ideal) x0 x1 i : BitVec 32) = if kept x0 T M (px i) then BitVec.ofNat 32 (T (px i)).val else 255#32 := by
  have h46 := v46_at x0 x1 T hT M hM i
  have h49 := (val_main_v49_apply (F := Ideal) x0 x1 i).trans (congrArg₂ IntOp.andi (v2_at x1 T hT i) h46)
  have h48 := (val_main_v48_apply (F := Ideal) x0 x1 i).trans (congrArg₂ IntOp.muli (v4_at x1 T hT i)
    ((val_main_v47_apply (F := Ideal) x0 x1 i).trans (congrArg (fun b : BitVec 1 => b.setWidth 32) h46)))
  have hc : (val_main_call2_v1 (F := Ideal) i : BitVec 32) = 255#32 := val_main_call2_v1_apply (F := Ideal) i
  refine (val_main_v50_apply (F := Ideal) x0 x1 i).trans ?_
  rw [h49, h48, hc]
  exact kept_label _ _

include hT hM in
theorem v55_at (i : S2097152.Idx) : (val_main_v55 (F := Ideal) x0 x1 i : BitVec 1) = BitVec.ofBool (kept x0 T M (px i)) := by
  have hc : (val_main_v54 (F := Ideal) i : BitVec 32) = 255#32 := val_main_v54_apply (F := Ideal) i
  exact (val_main_v55_apply (F := Ideal) x0 x1 i).trans ((congrArg₂ (IntOp.cmpi .ne) (v50_at x0 x1 T hT M hM i) hc).trans (kept_bit _ _))

include hT hM in
theorem v56_at (i : S2097152.Idx) : (val_main_v56 (F := Ideal) x0 x1 i : BitVec 32) = BitVec.ofNat 32 (cls (kept x0 T M (px i)) (T (px i))).val := by
  have hc : (val_main_call4_v1 (F := Ideal) i : BitVec 32) = 0#32 := val_main_call4_v1_apply (F := Ideal) i
  refine (val_main_v56_apply (F := Ideal) x0 x1 i).trans ?_
  rw [v55_at x0 x1 T hT M hM i, v50_at x0 x1 T hT M hM i, hc]
  exact kept_class _ _

/-! ## Reading the log probability -/

include hT hM in
theorem call5_v4_at (y : S2097152x1.Idx) : (val_main_call5_v4 (F := Ideal) x0 x1 y : BitVec 32)
    = BitVec.ofNat 32 (cls (kept x0 T M (px (idx_main_v57 y))) (T (px (idx_main_v57 y)))).val := by
  have h57 := (val_main_v57_apply (F := Ideal) x0 x1 y).trans (v56_at x0 x1 T hT M hM (idx_main_v57 y))
  have hc : (val_main_call5_v0 (F := Ideal) y : BitVec 32) = 0#32 := val_main_call5_v0_apply (F := Ideal) y
  have h1 := (val_main_call5_v1_apply (F := Ideal) x0 x1 y).trans ((congrArg₂ (IntOp.cmpi .slt) h57 hc).trans (class_nonneg _))
  refine (val_main_call5_v4_apply (F := Ideal) x0 x1 y).trans ?_
  rw [h1, h57]
  exact select_zero _ _

include hT hM in
theorem call5_v11_at (y : S2097152x1x1.Idx) : (val_main_call5_v11 (F := Ideal) x0 x1 y : BitVec 1) = 1#1 := by
  have h5 := (val_main_call5_v5_apply (F := Ideal) x0 x1 y).trans (call5_v4_at x0 x1 T hT M hM _)
  have h6 : (val_main_call5_v6 (F := Ideal) y : BitVec 32) = 0#32 := val_main_call5_v6_apply (F := Ideal) y
  have h9 : (val_main_call5_v9 (F := Ideal) y : BitVec 32) = 18#32 := (val_main_call5_v9_apply (F := Ideal) y).trans (val_main_call5_v8_apply (F := Ideal) _)
  refine (val_main_call5_v11_apply (F := Ideal) x0 x1 y).trans ?_
  rw [(val_main_call5_v7_apply (F := Ideal) x0 x1 y).trans (congrArg₂ (IntOp.cmpi .sge) h5 h6),
    (val_main_call5_v10_apply (F := Ideal) x0 x1 y).trans (congrArg₂ (IntOp.cmpi .sle) h5 h9)]
  exact class_range _

include hT hM in
theorem call5_v13_at (y : S2097152x1.Idx) : (val_main_call5_v13 (F := Ideal) x0 x1 y : EReal)
    = Pixel.logp (logits x0 (px (idx_main_v57 y))) (cls (kept x0 T M (px (idx_main_v57 y))) (T (px (idx_main_v57 y)))) := by
  have h5 := (val_main_call5_v5_apply (F := Ideal) x0 x1 (ix3 (y 0) (y 1) 0)).trans (call5_v4_at x0 x1 T hT M hM _)
  have hy : idx_main_v57 (idx_main_call5_v5 (ix3 (y 0) (y 1) 0)) = idx_main_v57 y := by
    have h1 : (y 1).val < 1 := (y 1).isLt
    funext a; apply Fin.ext
    match a with
    | ⟨0, _⟩ => show (((y 0).val * 1 + (y 1).val) * 1 + 0) / 1 = (y 0).val; omega
  rw [hy] at h5
  unfold val_main_call5_v13
  refine (row_gather _ _ y (ix2 (y 0) (cls (kept x0 T M (px (idx_main_v57 y))) (T (px (idx_main_v57 y))))) rfl ?_).trans ?_
  · rw [h5]; exact (class_int _).symm
  · exact v53_at x0 (idx_main_v57 y) _ _ rfl rfl

include hT hM in
theorem v59_at (i : S2097152.Idx) : (val_main_v59 (F := Ideal) x0 x1 i : EReal) = Pixel.logp (logits x0 (px i)) (cls (kept x0 T M (px i)) (T (px i))) := by
  have h12 : ∀ y, (val_main_call5_v12 (F := Ideal) x0 x1 y : BitVec 1) = 1#1 := fun y => by
    have h := call5_v11_at x0 x1 T hT M hM
    unfold val_main_call5_v12
    revert h
    generalize val_main_call5_v11 (F := Ideal) x0 x1 = z
    exact fun h => Host.reduce_andi_one z _ _ _ y rfl h
  have hi : idx_main_v57 (idx_main_v59 i) = i := by
    funext a; apply Fin.ext
    match a with
    | ⟨0, _⟩ => show (i 0).val / 1 = (i 0).val; omega
  have h13 := call5_v13_at x0 x1 T hT M hM (idx_main_v59 i)
  rw [hi] at h13
  refine (val_main_v59_apply (F := Ideal) x0 x1 i).trans ((val_main_v58_apply (F := Ideal) x0 x1 _).trans ?_)
  rw [h12, h13]
  exact select_one _ _

/-! ## The sums -/

include hT hM in
theorem v61_at (i : S2097152.Idx) : (val_main_v61 (F := Ideal) x0 x1 i : EReal) = if kept x0 T M (px i) then 1 else 0 := by
  refine (val_main_v61_apply (F := Ideal) x0 x1 i).trans ?_
  rw [v55_at x0 x1 T hT M hM i]
  exact bit_real _

include hT hM in
theorem v62_at (i : S2097152.Idx) : (val_main_v62 (F := Ideal) x0 x1 i : EReal)
    = if kept x0 T M (px i) then -Pixel.logp (logits x0 (px i)) (T (px i)) else 0 := by
  have h60 : (val_main_v60 (F := Ideal) x0 x1 i : EReal) = -Pixel.logp (logits x0 (px i)) (cls (kept x0 T M (px i)) (T (px i))) :=
    (val_main_v60_apply (F := Ideal) x0 x1 i).trans (congrArg (fun y : EReal => -y) (v59_at x0 x1 T hT M hM i))
  have h61 : (val_main_v61 (F := Ideal) x0 x1 i : EReal) = (((BitVec.ofBool (kept x0 T M (px i))).toNat : ℝ) : EReal) := by
    refine (val_main_v61_apply (F := Ideal) x0 x1 i).trans ?_
    rw [v55_at x0 x1 T hT M hM i]
    rfl
  exact (val_main_v62_apply (F := Ideal) x0 x1 i).trans ((congrArg₂ (fun a b : EReal => a * b) h60 h61).trans
    (times_bit (kept x0 T M (px i)) (T (px i)) (Pixel.logp (logits x0 (px i)))))

theorem sum_px (f : S8x512x512.Idx → EReal) : ∑ i : S2097152.Idx, f (px i) = ∑ q, f q :=
  (Finset.sum_congr rfl fun i _ => congrArg f (px_eq i).symm).trans (Equiv.sum_comp (Shape.reshapeEquiv shapeCasts_S8x512x512_S2097152) f)

include hT hM in
/-- The reference's result. -/
theorem result_eq : (val_main_v65 (F := Ideal) x0 x1 : FVec Ideal S_ .f32) = fun _ => Ideal.div
    (∑ q, if Pr x0 T q ≤ M then -Pixel.logp (logits x0 q) (T q) else 0) (∑ q, if Pr x0 T q ≤ M then 1 else 0) := by
  funext j
  have h63 : (val_main_v63 (F := Ideal) x0 x1 j : EReal) = ∑ q, if Pr x0 T q ≤ M then -Pixel.logp (logits x0 q) (T q) else 0 := by
    refine (val_main_v63_apply x0 x1 j).trans ?_
    refine (congrArg (· + _) (show (val_main_cst_14 (F := Ideal) (Shape.Idx.first h_S_) : EReal) = 0 from zero_bits)).trans ((zero_add _).trans ?_)
    refine Eq.trans (Finset.sum_congr rfl fun i _ => ?_) (sum_px fun q => if Pr x0 T q ≤ M then -Pixel.logp (logits x0 q) (T q) else 0)
    exact (v62_at x0 x1 T hT M hM i).trans (by simp [kept])
  have h64 : (val_main_v64 (F := Ideal) x0 x1 j : EReal) = ∑ q, if Pr x0 T q ≤ M then 1 else 0 := by
    refine (val_main_v64_apply x0 x1 j).trans ?_
    refine (congrArg (· + _) (show (val_main_cst_15 (F := Ideal) (Shape.Idx.first h_S_) : EReal) = 0 from zero_bits)).trans ((zero_add _).trans ?_)
    refine Eq.trans (Finset.sum_congr rfl fun i _ => ?_) (sum_px fun q => if Pr x0 T q ≤ M then 1 else 0)
    exact (v61_at x0 x1 T hT M hM i).trans (by simp [kept])
  exact (val_main_v65_apply (F := Ideal) x0 x1 j).trans (congrArg₂ Ideal.div h63 h64)

end Cert.ReferenceIdeal.Loss
-- ==== Proof.Values.lean ====
/- The two programs' results agree: the kernel's and the reference's loss are one number. -/
module

public import proofs.«01_k».proof.Proof.KernelResult
public import proofs.«01_k».proof.Proof.RefLoss
public import proofs.«01_k».proof.Proof.Gen.Pre_in_classes

@[expose] public section

set_option maxRecDepth 16384

noncomputable section

namespace Cert.Values

open Idealize.ShloMosaic

abbrev Px := Cert.ReferenceIdeal.S8x512x512.Idx

/-- A word from 0 to 18 names a class. -/
theorem class_of (w : BitVec 32) (h : IntOp.andi (IntOp.cmpi .sge w 0#32) (IntOp.cmpi .slt w 19#32) = 1#1) : ∃ t : Fin 19, Pixel.IsClass w t := by
  have hb : ∀ a b : Bool, IntOp.andi (BitVec.ofBool a) (BitVec.ofBool b) = 1#1 → a = true ∧ b = true := by decide
  obtain ⟨h0, h1⟩ := hb _ _ h
  have h0 : (0#32).toInt ≤ w.toInt := by simpa [BitVec.sle] using h0
  have h1 : w.toInt < (19#32).toInt := by simpa [BitVec.slt] using h1
  have e0 : (0#32).toInt = 0 := by decide
  have e1 : (19#32).toInt = 19 := by decide
  rw [e0] at h0
  rw [e1] at h1
  have hn : w.toNat < 19 := by
    rw [BitVec.toInt_eq_toNat_cond] at h0 h1
    have := w.isLt
    split at h0 <;> split at h1 <;> omega
  exact ⟨⟨w.toNat, hn⟩, by unfold Pixel.IsClass; simp⟩

/-- The precondition gives every pixel its class. -/
theorem classes (A : FVec Ideal Cert.Pre_in_classes.S8x19x512x512 .f32) (w : IVec Cert.Pre_in_classes.S8x512x512 32)
    (h : letI := Cert.Pre_in_classes.Gen.facts; Cert.Pre_in_classes.fn (F := Ideal) A w = fun _ => 1#1) : ∃ T : Px → Fin 19, ∀ q, Pixel.IsClass (w q) (T q) := by
  have hq : ∀ q : Px, ∃ t : Fin 19, Pixel.IsClass (w q) t := fun q => by
    have h1 := congrFun h HostLoop.idx0
    unfold Cert.Pre_in_classes.fn at h1
    dsimp only at h1
    haveI : Subsingleton Cert.Pre_in_classes.S_.Idx := ⟨fun a b => funext fun c => c.elim0⟩
    have h2 := Host.reduce_andi_all _ _ _ _ _ h1 q
    exact class_of (w q) h2
  exact ⟨fun q => (hq q).choose, fun q => (hq q).choose_spec⟩

/-- Minus a sum none of whose terms is +∞. -/
theorem neg_sum (f : Px → EReal) (hf : ∀ q, f q ≠ ⊤) (s : Finset Px) : ∑ q ∈ s, -f q = -∑ q ∈ s, f q ∧ ∑ q ∈ s, f q ≠ ⊤ := by
  induction s using Finset.induction_on with
  | empty => simp
  | insert a s ha ih =>
    rw [Finset.sum_insert ha, Finset.sum_insert ha, ih.1]
    exact ⟨by rw [EReal.neg_add (Or.inr ih.2) (Or.inl (hf a)), sub_eq_add_neg], EReal.add_ne_top (hf a) ih.2⟩

/-- The reference's quotient is the kernel's, when the pixels kept are the same. -/
theorem agree (A : FVec Ideal Cert.ReferenceIdeal.S8x19x512x512 .f32) (T : Px → Fin 19) (S : Px → EReal)
    (hS : S = fun q => Pixel.score (Cert.ReferenceIdeal.Loss.logits A q) (T q)) (M v : EReal)
    (hk : ∀ q, Cert.ReferenceIdeal.Loss.Pr A T q ≤ M ↔ S q ≤ v) :
    Ideal.div (∑ q, if Cert.ReferenceIdeal.Loss.Pr A T q ≤ M then -Pixel.logp (Cert.ReferenceIdeal.Loss.logits A q) (T q) else 0)
      (∑ q, if Cert.ReferenceIdeal.Loss.Pr A T q ≤ M then 1 else 0) = Cert.KernelIdeal.Value.loss S v := by
  have hST : ∀ q, S q = Pixel.logp (Cert.ReferenceIdeal.Loss.logits A q) (T q) := fun q => by rw [Pixel.logp_eq, hS]
  have htop : ∀ q, Pixel.sel v (S q) ≠ ⊤ := fun q => by
    unfold Pixel.sel
    split
    · rw [hS]; exact Pixel.score_ne_top _ _
    · exact EReal.zero_ne_top
  unfold Cert.KernelIdeal.Value.loss
  refine congrArg₂ Ideal.div ?_ ?_
  · refine Eq.trans (Finset.sum_congr rfl fun q _ => ?_) (neg_sum (fun q => Pixel.sel v (S q)) htop Finset.univ).1
    unfold Pixel.sel
    by_cases h : S q ≤ v
    · rw [if_pos h, if_pos ((hk q).mpr h), hST]
    · rw [if_neg h, if_neg (fun h' => h ((hk q).mp h')), neg_zero]
  · refine Finset.sum_congr rfl fun q _ => ?_
    unfold Pixel.ind
    by_cases h : S q ≤ v
    · rw [if_pos h, if_pos ((hk q).mpr h)]
    · rw [if_neg h, if_neg (fun h' => h ((hk q).mp h'))]

open Cert.KernelIdeal in
/-- The reference's result on a device's arguments is what the kernel leaves there. -/
theorem device_value (m : (ℓ : Loc nD τ sig) → Buf (Elt Ideal) ℓ) (c : Dev nD)
    (h : letI := Cert.Pre_in_classes.Gen.facts; Cert.Pre_in_classes.fn (F := Ideal) (m (c, Proc.devRef .tc main_arg0)) (m (c, Proc.devRef .tc main_arg1)) = fun _ => 1#1) :
    (Cert.ReferenceIdeal.Read.val_main_v65 (F := Ideal) (m (c, Proc.devRef .tc main_arg0)) (m (c, Proc.devRef .tc main_arg1)) : FVec Ideal Cert.ReferenceIdeal.S_ .f32)
      = (Hand.Vend m c (Proc.devRef .tc main_v5) : FVec Ideal S_ .f32) := by
  obtain ⟨T, hT⟩ := classes _ _ h
  obtain ⟨t, htop, ht, hM⟩ := Cert.ReferenceIdeal.Loss.threshold (m (c, Proc.devRef .tc main_arg0)) (m (c, Proc.devRef .tc main_arg1)) T hT
  obtain ⟨v, hk, hv⟩ := Value.result m c T hT (fun q => Pixel.score (Value.logits (m (c, Proc.devRef .tc main_arg0)) q) (T q)) rfl
    (Cert.ReferenceIdeal.Loss.Pr (m (c, Proc.devRef .tc main_arg0)) T) t (fun i a => Pixel.prob_le _ _ a) ht htop
  refine (Cert.ReferenceIdeal.Loss.result_eq (m (c, Proc.devRef .tc main_arg0)) (m (c, Proc.devRef .tc main_arg1)) T hT _ hM).trans (Eq.trans ?_ hv.symm)
  exact funext fun _ => agree (m (c, Proc.devRef .tc main_arg0)) T _ rfl _ v hk

end Cert.Values
-- ==== Proof.lean ====
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_classes
public import proofs.«01_k».proof.Proof.Values
public import Idealize.ShloMosaic.Adequacy
public import Idealize.ShloMosaic.Init
public import Idealize.ShloMosaic.Lib.Quiescent

@[expose] public section

noncomputable section

namespace Cert.Proof

open Idealize.ShloMosaic Idealize.SL.Sem

theorem frame_Kernel : Cert.quiescent_Kernel (hKernel := Cert.Kernel.Gen.facts) := fun m g _ =>
  (θ_run Cert.Kernel.defs _ _).mono (fun _ h => ⟨fun c => (h.1 c).2, h.2⟩) (Cert.Kernel.Hand.run m g)

theorem frame_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Hand.run m g)

theorem frame_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems rfl r.2⟩) (Cert.ReferenceIdeal.Value.run m g)

theorem preserves : Cert.preserves_Kernel_KernelIdeal :=
  IdealRules.named_const.statement _ _ _ _ _ rfl

theorem algebraic : Cert.algebraic_KernelIdeal_ReferenceIdeal_pre_in_classes (hKernelIdeal := Cert.KernelIdeal.Gen.facts)
    (hReferenceIdeal := Cert.ReferenceIdeal.Gen.facts) (hPre_in_classes := Cert.Pre_in_classes.Gen.facts) := fun m g m' g' hpre hargs =>
  ⟨fun c => Cert.KernelIdeal.Hand.Vend m c (Proc.devRef .tc Cert.KernelIdeal.main_v5),
    (θ_run Cert.KernelIdeal.defs _ _).mono (fun _ h => h.1) (Cert.KernelIdeal.Hand.run m g),
    (θ_run Cert.ReferenceIdeal.defs _ _).mono (fun r h c => ⟨by
      refine (h c).1.trans ((Cert.ReferenceIdeal.Read.val_main_v65_eq (StableHlo.launchContents m' c)).trans ?_)
      have h0 : StableHlo.launchContents m' c (Proc.devRef .tc Cert.ReferenceIdeal.main_arg0) = m (c, Proc.devRef .tc Cert.KernelIdeal.main_arg0) := (hargs c).1
      have h1 : StableHlo.launchContents m' c (Proc.devRef .tc Cert.ReferenceIdeal.main_arg1) = m (c, Proc.devRef .tc Cert.KernelIdeal.main_arg1) := (hargs c).2
      rw [h0, h1]
      exact Cert.Values.device_value m c (hpre c), (h c).2⟩) (Cert.ReferenceIdeal.Value.run m' g')⟩

theorem claim : Cert.Claim := ⟨Cert.Kernel.Gen.facts, Cert.KernelIdeal.Gen.facts, Cert.ReferenceIdeal.Gen.facts, Cert.Pre_in_classes.Gen.facts,
  frame_Kernel, fun m g _ => frame_KernelIdeal m g, fun m g _ => frame_KernelIdeal m g, fun m g _ => frame_ReferenceIdeal m g, fun m g _ => frame_ReferenceIdeal m g,
  preserves, algebraic⟩

end Cert.Proof

end
